-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S4096x20 : Shape := ⟨2, ![4096, 20]⟩
abbrev S123x1000 : Shape := ⟨2, ![123, 1000]⟩
abbrev S1000x1000 : Shape := ⟨2, ![1000, 1000]⟩
abbrev S1000 : Shape := ⟨1, ![1000]⟩
abbrev S1000x123 : Shape := ⟨2, ![1000, 123]⟩
abbrev S123 : Shape := ⟨1, ![123]⟩
abbrev S_ : Shape := ⟨0, ![]⟩

class Facts : Prop where
  bcast_S_S4096x20 : S_.BroadcastsInDim S4096x20 (![] : Fin 0 → Fin S4096x20.rank)
  reducesTo_S4096x20_S_d0_1 : S4096x20.ReducesTo [0, 1] S_
  h_S_ : 0 < S_.numel

variable [Facts]

def fn {F : FTy → Type} [FloatOps F] (main_arg0 : IVec S4096x20 32) (main_arg1 : FVec F S123x1000 .f32) (main_arg2 : FVec F S1000x1000 .f32) (main_arg3 : FVec F S1000 .f32) (main_arg4 : FVec F S1000x123 .f32) (main_arg5 : FVec F S123 .f32) : IVec S_ 1 :=
  let main_c : IVec S_ 32 := constantI S_ 32 0#32
  let main_v0 : IVec S4096x20 32 := broadcastInDim S4096x20 ![] bcast_S_S4096x20 main_c
  let main_v1 : IVec S4096x20 1 := cmpi .sge main_arg0 main_v0
  let main_c_0 : IVec S_ 1 := constantI S_ 1 1#1
  let main_v2 : IVec S_ 1 := (fun x v => Host.reduce IntOp.andi x v reducesTo_S4096x20_S_d0_1 h_S_) main_v1 main_c_0
  let main_c_1 : IVec S_ 32 := constantI S_ 32 123#32
  let main_v3 : IVec S4096x20 32 := broadcastInDim S4096x20 ![] bcast_S_S4096x20 main_c_1
  let main_v4 : IVec S4096x20 1 := cmpi .slt main_arg0 main_v3
  let main_c_2 : IVec S_ 1 := constantI S_ 1 1#1
  let main_v5 : IVec S_ 1 := (fun x v => Host.reduce IntOp.andi x v reducesTo_S4096x20_S_d0_1 h_S_) main_v4 main_c_2
  let main_v6 : IVec S_ 1 := andi main_v2 main_v5
  main_v6
-- ==== Kernel.lean ====
abbrev S4096x20 : Shape := ⟨2, ![4096, 20]⟩
abbrev S123x1000 : Shape := ⟨2, ![123, 1000]⟩
abbrev S1000x1000 : Shape := ⟨2, ![1000, 1000]⟩
abbrev S1000 : Shape := ⟨1, ![1000]⟩
abbrev S1000x123 : Shape := ⟨2, ![1000, 123]⟩
abbrev S123 : Shape := ⟨1, ![123]⟩
abbrev S1x1000 : Shape := ⟨2, ![1, 1000]⟩
abbrev S1x123 : Shape := ⟨2, ![1, 123]⟩
abbrev S123x123 : Shape := ⟨2, ![123, 123]⟩
abbrev S_ : Shape := ⟨0, ![]⟩
abbrev S128x128 : Shape := ⟨2, ![128, 128]⟩
abbrev S32x20x128 : Shape := ⟨3, ![32, 20, 128]⟩
abbrev S32x20x128x128 : Shape := ⟨4, ![32, 20, 128, 128]⟩
abbrev S20x128 : Shape := ⟨2, ![20, 128]⟩
abbrev S1x20x128 : Shape := ⟨3, ![1, 20, 128]⟩
abbrev S1x128 : Shape := ⟨2, ![1, 128]⟩
abbrev S128 : Shape := ⟨1, ![128]⟩
abbrev S1x1x128x128 : Shape := ⟨4, ![1, 1, 128, 128]⟩
abbrev S32x20x128x123 : Shape := ⟨4, ![32, 20, 128, 123]⟩
abbrev S4096x20x123 : Shape := ⟨3, ![4096, 20, 123]⟩

abbrev nBuf : Table → Nat
  | .hbm => 16
  | .local .tc .vmem => 6
  | .local .scVector .vmem => 3
  | _ => 0

abbrev bufTy : (tb : Table) → Fin (nBuf tb) → BufTy
  | .hbm, ⟨0, _⟩ => ⟨S4096x20, .i32⟩
  | .hbm, ⟨1, _⟩ => ⟨S123x1000, .f32⟩
  | .hbm, ⟨2, _⟩ => ⟨S1000x1000, .f32⟩
  | .hbm, ⟨3, _⟩ => ⟨S1000, .f32⟩
  | .hbm, ⟨4, _⟩ => ⟨S1000x123, .f32⟩
  | .hbm, ⟨5, _⟩ => ⟨S123, .f32⟩
  | .hbm, ⟨6, _⟩ => ⟨S1x1000, .f32⟩
  | .hbm, ⟨7, _⟩ => ⟨S1x123, .f32⟩
  | .hbm, ⟨8, _⟩ => ⟨S123x123, .f32⟩
  | .hbm, ⟨9, _⟩ => ⟨S_, .i32⟩
  | .hbm, ⟨10, _⟩ => ⟨S_, .f32⟩
  | .hbm, ⟨11, _⟩ => ⟨S128x128, .f32⟩
  | .hbm, ⟨12, _⟩ => ⟨S32x20x128, .i32⟩
  | .hbm, ⟨13, _⟩ => ⟨S32x20x128x128, .f32⟩
  | .hbm, ⟨14, _⟩ => ⟨S32x20x128x123, .f32⟩
  | .hbm, ⟨15, _⟩ => ⟨S4096x20x123, .f32⟩
  | .local .tc .vmem, ⟨0, _⟩ => ⟨S123x1000, .f32⟩
  | .local .tc .vmem, ⟨1, _⟩ => ⟨S1000x1000, .f32⟩
  | .local .tc .vmem, ⟨2, _⟩ => ⟨S1x1000, .f32⟩
  | .local .tc .vmem, ⟨3, _⟩ => ⟨S1000x123, .f32⟩
  | .local .tc .vmem, ⟨4, _⟩ => ⟨S1x123, .f32⟩
  | .local .tc .vmem, ⟨5, _⟩ => ⟨S123x123, .f32⟩
  | .local .scVector .vmem, ⟨0, _⟩ => ⟨S20x128, .i32⟩
  | .local .scVector .vmem, ⟨1, _⟩ => ⟨S128x128, .f32⟩
  | .local .scVector .vmem, ⟨2, _⟩ => ⟨S128x128, .f32⟩
  | _, _ => ⟨S4096x20, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | _ => false

abbrev sig : RefSig :=
  ofTables nBuf rfl bufTy 4 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v4_scv : Ref sig .scVector := ⟨.hbm, 12, rfl⟩
abbrev main_v3_scv : Ref sig .scVector := ⟨.hbm, 11, rfl⟩
abbrev main_v5_scv : Ref sig .scVector := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S123x1000 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1000x1000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1000x123 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x123 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S123x123 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev grid1 : Pipeline.Grid := ⟨2, ![2, 16], ![false, false]⟩

def k1_off1 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_161_r0 : BitVec 32 := 0#32
  let c0_i32_162_r0 : BitVec 32 := 0#32
  ![v1.toNat, 0, 0]
def k1_off2 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_10 : BitVec 32 := 0#32
  let c0_i32_161_r1 : BitVec 32 := 0#32
  let c0_i32_162_r1 : BitVec 32 := 0#32
  ![v1.toNat, 0, 0, 0]
def k1_off3 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_19 : BitVec 32 := 1#32
  let c0_i32_161_r2 : BitVec 32 := 0#32
  let c0_i32_162_r2 : BitVec 32 := 0#32
  ![v1.toNat, 1, 0, 0]
def k1_off4 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_27 : BitVec 32 := 2#32
  let c0_i32_161_r3 : BitVec 32 := 0#32
  let c0_i32_162_r3 : BitVec 32 := 0#32
  ![v1.toNat, 2, 0, 0]
def k1_off5 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32_35 : BitVec 32 := 3#32
  let c0_i32_161_r4 : BitVec 32 := 0#32
  let c0_i32_162_r4 : BitVec 32 := 0#32
  ![v1.toNat, 3, 0, 0]
def k1_off6 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_43 : BitVec 32 := 4#32
  let c0_i32_161_r5 : BitVec 32 := 0#32
  let c0_i32_162_r5 : BitVec 32 := 0#32
  ![v1.toNat, 4, 0, 0]
def k1_off7 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5_i32_51 : BitVec 32 := 5#32
  let c0_i32_161_r6 : BitVec 32 := 0#32
  let c0_i32_162_r6 : BitVec 32 := 0#32
  ![v1.toNat, 5, 0, 0]
def k1_off8 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32_59 : BitVec 32 := 6#32
  let c0_i32_161_r7 : BitVec 32 := 0#32
  let c0_i32_162_r7 : BitVec 32 := 0#32
  ![v1.toNat, 6, 0, 0]
def k1_off9 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c7_i32_67 : BitVec 32 := 7#32
  let c0_i32_161_r8 : BitVec 32 := 0#32
  let c0_i32_162_r8 : BitVec 32 := 0#32
  ![v1.toNat, 7, 0, 0]
def k1_off10 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_75 : BitVec 32 := 8#32
  let c0_i32_161_r9 : BitVec 32 := 0#32
  let c0_i32_162_r9 : BitVec 32 := 0#32
  ![v1.toNat, 8, 0, 0]
def k1_off11 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c9_i32_83 : BitVec 32 := 9#32
  let c0_i32_161_r10 : BitVec 32 := 0#32
  let c0_i32_162_r10 : BitVec 32 := 0#32
  ![v1.toNat, 9, 0, 0]
def k1_off12 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10_i32_91 : BitVec 32 := 10#32
  let c0_i32_161_r11 : BitVec 32 := 0#32
  let c0_i32_162_r11 : BitVec 32 := 0#32
  ![v1.toNat, 10, 0, 0]
def k1_off13 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c11_i32_99 : BitVec 32 := 11#32
  let c0_i32_161_r12 : BitVec 32 := 0#32
  let c0_i32_162_r12 : BitVec 32 := 0#32
  ![v1.toNat, 11, 0, 0]
def k1_off14 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c12_i32_107 : BitVec 32 := 12#32
  let c0_i32_161_r13 : BitVec 32 := 0#32
  let c0_i32_162_r13 : BitVec 32 := 0#32
  ![v1.toNat, 12, 0, 0]
def k1_off15 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32_115 : BitVec 32 := 13#32
  let c0_i32_161_r14 : BitVec 32 := 0#32
  let c0_i32_162_r14 : BitVec 32 := 0#32
  ![v1.toNat, 13, 0, 0]
def k1_off16 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c14_i32_123 : BitVec 32 := 14#32
  let c0_i32_161_r15 : BitVec 32 := 0#32
  let c0_i32_162_r15 : BitVec 32 := 0#32
  ![v1.toNat, 14, 0, 0]
def k1_off17 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c15_i32_131 : BitVec 32 := 15#32
  let c0_i32_161_r16 : BitVec 32 := 0#32
  let c0_i32_162_r16 : BitVec 32 := 0#32
  ![v1.toNat, 15, 0, 0]
def k1_off18 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_139 : BitVec 32 := 16#32
  let c0_i32_161_r17 : BitVec 32 := 0#32
  let c0_i32_162_r17 : BitVec 32 := 0#32
  ![v1.toNat, 16, 0, 0]
def k1_off19 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c17_i32_147 : BitVec 32 := 17#32
  let c0_i32_161_r18 : BitVec 32 := 0#32
  let c0_i32_162_r18 : BitVec 32 := 0#32
  ![v1.toNat, 17, 0, 0]
def k1_off20 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c18_i32_155 : BitVec 32 := 18#32
  let c0_i32_161_r19 : BitVec 32 := 0#32
  let c0_i32_162_r19 : BitVec 32 := 0#32
  ![v1.toNat, 18, 0, 0]
def k1_off21 (i : grid1.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c19_i32_160 : BitVec 32 := 19#32
  let c0_i32_161_r20 : BitVec 32 := 0#32
  let c0_i32_162_r20 : BitVec 32 := 0#32
  ![v1.toNat, 19, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x20 : Shape := ⟨2, ![4096, 20]⟩
abbrev S123x1000 : Shape := ⟨2, ![123, 1000]⟩
abbrev S1000x1000 : Shape := ⟨2, ![1000, 1000]⟩
abbrev S1000 : Shape := ⟨1, ![1000]⟩
abbrev S1000x123 : Shape := ⟨2, ![1000, 123]⟩
abbrev S123 : Shape := ⟨1, ![123]⟩
abbrev S_ : Shape := ⟨0, ![]⟩
abbrev S4096x20x1 : Shape := ⟨3, ![4096, 20, 1]⟩
abbrev S1 : Shape := ⟨1, ![1]⟩
abbrev S1x1x1 : Shape := ⟨3, ![1, 1, 1]⟩
abbrev S4096x20x1000 : Shape := ⟨3, ![4096, 20, 1000]⟩
abbrev S1x1x1000 : Shape := ⟨3, ![1, 1, 1000]⟩
abbrev S4096x20x123 : Shape := ⟨3, ![4096, 20, 123]⟩
abbrev S1x1x123 : Shape := ⟨3, ![1, 1, 123]⟩

abbrev nBuf : Space → Nat
  | .hbm => 43
  | .vmem => 0
  | .smem => 0
  | _ => 0

abbrev bufTy : (tb : Table) → Fin (tcTables nBuf tb) → BufTy
  | .hbm, ⟨0, _⟩ => ⟨S4096x20, .i32⟩
  | .hbm, ⟨1, _⟩ => ⟨S123x1000, .f32⟩
  | .hbm, ⟨2, _⟩ => ⟨S1000x1000, .f32⟩
  | .hbm, ⟨3, _⟩ => ⟨S1000, .f32⟩
  | .hbm, ⟨4, _⟩ => ⟨S1000x123, .f32⟩
  | .hbm, ⟨5, _⟩ => ⟨S123, .f32⟩
  | .hbm, ⟨6, _⟩ => ⟨S_, .i32⟩
  | .hbm, ⟨7, _⟩ => ⟨S4096x20, .i32⟩
  | .hbm, ⟨8, _⟩ => ⟨S4096x20, .i1⟩
  | .hbm, ⟨9, _⟩ => ⟨S_, .i32⟩
  | .hbm, ⟨10, _⟩ => ⟨S4096x20, .i32⟩
  | .hbm, ⟨11, _⟩ => ⟨S4096x20, .i32⟩
  | .hbm, ⟨12, _⟩ => ⟨S4096x20, .i32⟩
  | .hbm, ⟨13, _⟩ => ⟨S4096x20x1, .i32⟩
  | .hbm, ⟨14, _⟩ => ⟨S1, .i32⟩
  | .hbm, ⟨15, _⟩ => ⟨S_, .i32⟩
  | .hbm, ⟨16, _⟩ => ⟨S4096x20x1, .i32⟩
  | .hbm, ⟨17, _⟩ => ⟨S4096x20x1, .i1⟩
  | .hbm, ⟨18, _⟩ => ⟨S1x1x1, .i32⟩
  | .hbm, ⟨19, _⟩ => ⟨S4096x20x1, .i32⟩
  | .hbm, ⟨20, _⟩ => ⟨S4096x20x1, .i1⟩
  | .hbm, ⟨21, _⟩ => ⟨S4096x20x1, .i1⟩
  | .hbm, ⟨22, _⟩ => ⟨S_, .i1⟩
  | .hbm, ⟨23, _⟩ => ⟨S4096x20, .i1⟩
  | .hbm, ⟨24, _⟩ => ⟨S4096x20x1000, .f32⟩
  | .hbm, ⟨25, _⟩ => ⟨S4096x20x1000, .i1⟩
  | .hbm, ⟨26, _⟩ => ⟨S_, .f32⟩
  | .hbm, ⟨27, _⟩ => ⟨S4096x20x1000, .f32⟩
  | .hbm, ⟨28, _⟩ => ⟨S4096x20x1000, .f32⟩
  | .hbm, ⟨29, _⟩ => ⟨S_, .f32⟩
  | .hbm, ⟨30, _⟩ => ⟨S4096x20x1000, .f32⟩
  | .hbm, ⟨31, _⟩ => ⟨S4096x20x1000, .f32⟩
  | .hbm, ⟨32, _⟩ => ⟨S4096x20x1000, .f32⟩
  | .hbm, ⟨33, _⟩ => ⟨S1x1x1000, .f32⟩
  | .hbm, ⟨34, _⟩ => ⟨S4096x20x1000, .f32⟩
  | .hbm, ⟨35, _⟩ => ⟨S4096x20x1000, .f32⟩
  | .hbm, ⟨36, _⟩ => ⟨S_, .f32⟩
  | .hbm, ⟨37, _⟩ => ⟨S4096x20x1000, .f32⟩
  | .hbm, ⟨38, _⟩ => ⟨S4096x20x1000, .f32⟩
  | .hbm, ⟨39, _⟩ => ⟨S4096x20x123, .f32⟩
  | .hbm, ⟨40, _⟩ => ⟨S1x1x123, .f32⟩
  | .hbm, ⟨41, _⟩ => ⟨S4096x20x123, .f32⟩
  | .hbm, ⟨42, _⟩ => ⟨S4096x20x123, .f32⟩
  | _, _ => ⟨S4096x20, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_call1_cst : Ref sig .tc := ⟨.hbm, 29, rfl⟩
abbrev main_call1_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_call2_cst : Ref sig .tc := ⟨.hbm, 36, rfl⟩
abbrev main_call2_v0 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩

abbrev nD : Nat := 1
abbrev τ : Topo := Topo.v7x

variable {F : FTy → Type} [FloatOps F]
-- ==== Proof.Tile.lean ====
/-
  The SparseCore kernel's tile program, folded: the twenty chunks a tile writes are one step at twenty
  indices. Each step waits for the gather into one of the two row buffers, copies the buffer out to the
  chunk's block of the result, waits for that copy, and starts the gather of the chunk two further on.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.Pre_in_range

@[expose] public section

noncomputable section

namespace Cert.Proof.Tile

open Cert.KernelIdeal Cert.KernelIdeal.Gen
open Idealize.ShloMosaic
open Idealize.SL Idealize.SL.Sem

variable {F : FTy → Type} [FloatOps F]

/-! ## The buffers and semaphores a tile works on -/

/-- The indices, a block of 20 × 128 per tile. -/
abbrev idxA : Memref sig .scVector .hbm S32x20x128 .i32 := Memref.whole main_v4_scv
/-- The table of rows. -/
abbrev tabA : Memref sig .scVector .hbm S128x128 .f32 := Memref.whole main_v3_scv
/-- The result, a block of 20 × 128 × 128 per tile. -/
abbrev outA : Memref sig .scVector .hbm S32x20x128x128 .f32 := Memref.whole main_v5_scv
/-- The tile's copy of its indices. -/
abbrev ixA : Memref sig .scVector .vmem S20x128 .i32 := Memref.whole cc1_scratch0

/-- The two row buffers. -/
abbrev bufA (b : Fin 2) : Memref sig .scVector .vmem S128x128 .f32 := match b with
  | 0 => Memref.whole cc1_scratch1
  | 1 => Memref.whole cc1_scratch2
theorem bufA_whole : ∀ b, (bufA b).IsWhole
  | 0 => Memref.isWhole_whole _
  | 1 => Memref.isWhole_whole _
/-- The semaphore a row buffer's gathers signal. -/
abbrev gsem (b : Fin 2) : DmaSems sig S_ := match b with
  | 0 => cc1_scratch3
  | 1 => cc1_scratch4
/-- The semaphore of chunk `j`'s copy out. -/
def wsem : Fin 20 → DmaSems sig S_
  | 0 => cc1_scoped1
  | 1 => cc1_scoped2
  | 2 => cc1_scoped3
  | 3 => cc1_scoped4
  | 4 => cc1_scoped5
  | 5 => cc1_scoped6
  | 6 => cc1_scoped7
  | 7 => cc1_scoped8
  | 8 => cc1_scoped9
  | 9 => cc1_scoped10
  | 10 => cc1_scoped11
  | 11 => cc1_scoped12
  | 12 => cc1_scoped13
  | 13 => cc1_scoped14
  | 14 => cc1_scoped15
  | 15 => cc1_scoped16
  | 16 => cc1_scoped17
  | 17 => cc1_scoped18
  | 18 => cc1_scoped19
  | 19 => cc1_scoped20
  | ⟨_ + 20, h⟩ => absurd h (Nat.not_lt.2 (Nat.le_add_left _ _))

/-- Where chunk `j`'s block of the result lies. -/
def outOff : Fin 20 → grid1.Coords → Fin 4 → Nat
  | 0 => k1_off2
  | 1 => k1_off3
  | 2 => k1_off4
  | 3 => k1_off5
  | 4 => k1_off6
  | 5 => k1_off7
  | 6 => k1_off8
  | 7 => k1_off9
  | 8 => k1_off10
  | 9 => k1_off11
  | 10 => k1_off12
  | 11 => k1_off13
  | 12 => k1_off14
  | 13 => k1_off15
  | 14 => k1_off16
  | 15 => k1_off17
  | 16 => k1_off18
  | 17 => k1_off19
  | 18 => k1_off20
  | 19 => k1_off21
  | ⟨_ + 20, h⟩ => absurd h (Nat.not_lt.2 (Nat.le_add_left _ _))
theorem outOff_inb : ∀ (j : Fin 20) (i : grid1.Coords) (a), outOff j i a + S1x1x128x128.size a ≤ S32x20x128x128.size a
  | 0 => k1_off2_inb
  | 1 => k1_off3_inb
  | 2 => k1_off4_inb
  | 3 => k1_off5_inb
  | 4 => k1_off6_inb
  | 5 => k1_off7_inb
  | 6 => k1_off8_inb
  | 7 => k1_off9_inb
  | 8 => k1_off10_inb
  | 9 => k1_off11_inb
  | 10 => k1_off12_inb
  | 11 => k1_off13_inb
  | 12 => k1_off14_inb
  | 13 => k1_off15_inb
  | 14 => k1_off16_inb
  | 15 => k1_off17_inb
  | 16 => k1_off18_inb
  | 17 => k1_off19_inb
  | 18 => k1_off20_inb
  | 19 => k1_off21_inb
  | ⟨_ + 20, h⟩ => absurd h (Nat.not_lt.2 (Nat.le_add_left _ _))
theorem outOff_eq : ∀ (j : Fin 20) (i : grid1.Coords), outOff j i = ![2 * (i 1).val + (i 0).val, j.val, 0, 0]
  | 0 => k1_off2_eq
  | 1 => k1_off3_eq
  | 2 => k1_off4_eq
  | 3 => k1_off5_eq
  | 4 => k1_off6_eq
  | 5 => k1_off7_eq
  | 6 => k1_off8_eq
  | 7 => k1_off9_eq
  | 8 => k1_off10_eq
  | 9 => k1_off11_eq
  | 10 => k1_off12_eq
  | 11 => k1_off13_eq
  | 12 => k1_off14_eq
  | 13 => k1_off15_eq
  | 14 => k1_off16_eq
  | 15 => k1_off17_eq
  | 16 => k1_off18_eq
  | 17 => k1_off19_eq
  | 18 => k1_off20_eq
  | 19 => k1_off21_eq
  | ⟨_ + 20, h⟩ => absurd h (Nat.not_lt.2 (Nat.le_add_left _ _))
theorem rowOff_inb : ∀ (j : Fin 20) (a), (![j.val, 0] : Fin 2 → Nat) a + S1x128.size a ≤ S20x128.size a := by decide

/-- The buffer chunk `j` goes through: the chunks alternate. -/
def par (j : Fin 20) : Fin 2 := ⟨j.val % 2, Nat.mod_lt _ (by decide)⟩

/-- The tile's block of the indices. -/
abbrev idxK (i : grid1.Coords) : Memref sig .scVector .hbm S20x128 .i32 :=
  (idxA.slice (Rect.unit (s := S32x20x128) (k1_off1 i) S1x20x128.size (k1_off1_inb i)) (fun _ => rfl)).squeeze S20x128 squeezes_S1x20x128_S20x128
/-- The table, as the gathers name it. -/
abbrev tabK : Memref sig .scVector .hbm S128x128 .f32 :=
  tabA.slice (Rect.unit (s := S128x128) ![0, 0] S128x128.size inb_S128x128_S128x128_0_0) (fun _ => rfl)
/-- Row `j` of the tile's indices. -/
abbrev rowK (j : Fin 20) : Memref sig .scVector .vmem S128 .i32 :=
  (ixA.slice (Rect.unit (s := S20x128) ![j.val, 0] S1x128.size (rowOff_inb j)) (fun _ => rfl)).squeeze S128 squeezes_S1x128_S128
/-- Chunk `j`'s block of the result. -/
abbrev outK (j : Fin 20) (i : grid1.Coords) : Memref sig .scVector .hbm S128x128 .f32 :=
  (outA.slice (Rect.unit (s := S32x20x128x128) (outOff j i) S1x1x128x128.size (outOff_inb j i)) (fun _ => rfl)).squeeze S128x128 squeezes_S1x1x128x128_S128x128

/-! ## The folded program -/

abbrev TProg (F : FTy → Type) (i : grid1.Coords) : Type _ :=
  Prog (TpuEff nD τ sig (Elt F) Λ₀ (.scVector ((i 0).castLE hcore1) ((i 1).castLE hsub1))) PUnit

/-- Start the gather of chunk `j`'s rows into buffer `b`. -/
def gat (i : grid1.Coords) (b : Fin 2) (j : Fin 20) : TProg F i :=
  SparseCore.enqueueIndirectGather rfl tabK (bufA b) gathers_S128x128_S128x128 (rowK j) rfl (gsem b).sem (View.wordExact_bits rfl) rfl (Or.inl rfl)

/-- Wait for the gather into buffer `b`, copy it out to chunk `j`'s block, and wait for the copy. -/
def out (i : grid1.Coords) (b : Fin 2) (j : Fin 20) : TProg F i := do
  SparseCore.waitIndirectGather (gsem b).sem tabK (bufA b) (View.wordExact_bits rfl) (bufA_whole b).wordExact
  Prog.lift (.enqueueDma (bufA b) (.here (outK j i)) (.dma (wsem j).sem) (bufA_whole b).wordExact ((View.wordExact_bits rfl).reshape _ _) ⟨Or.inl rfl, trivial⟩)
  Prog.lift (.waitDma2 (wsem j).sem (bufA b) (outK j i) (bufA_whole b).wordExact ((View.wordExact_bits rfl).reshape _ _))

/-- A chunk below 18, among the twenty. -/
def lo (j : Fin 18) : Fin 20 := j.castLE (by decide)

/-- A chunk with one two further on: out with it, then start the gather of that one. -/
def step (i : grid1.Coords) (j : Fin 18) : TProg F i := do
  out i (par (lo j)) (lo j)
  gat i (par (lo j)) (j.natAdd 2)

/-- The steps of the chunks of a list, in order, before `k`. -/
def steps (i : grid1.Coords) (k : TProg F i) (l : List (Fin 18)) : TProg F i := l.foldr (fun j k => step i j >>= fun _ => k) k

/-- The last two chunks. -/
def last (i : grid1.Coords) : TProg F i := do
  out i 0 18
  out i 1 19

/-- The run from the tile's copy of its indices on. -/
def chunks (i : grid1.Coords) : TProg F i := do
  gat i 0 0
  gat i 1 1
  steps i (last i) [0, 1, 2, 3, 4, 5, 6, 7, 8, 9, 10, 11, 12, 13, 14, 15, 16, 17]

/-- A tile's whole run. -/
def tileProg (i : grid1.Coords) : TProg F i := do
  Prog.lift (.enqueueDma (idxK i) (.here ixA) (.dma cc1_scoped0.sem) ((View.wordExact_bits rfl).reshape _ _) (Memref.isWhole_whole cc1_scratch0).wordExact ⟨Or.inl rfl, trivial⟩)
  Prog.lift (.waitDma2 cc1_scoped0.sem (idxK i) ixA ((View.wordExact_bits rfl).reshape _ _) (Memref.isWhole_whole cc1_scratch0).wordExact)
  chunks i

set_option maxRecDepth 65536 in
/-- The printed tile program is the folded one. -/
theorem gather_call_eq (i : grid1.Coords) :
    cc1__gather_call (F := F) i idxA (Memref.isWhole_whole _) tabA (Memref.isWhole_whole _) outA (Memref.isWhole_whole _)
      ixA (Memref.isWhole_whole _) (Memref.whole cc1_scratch1) (Memref.isWhole_whole _) (Memref.whole cc1_scratch2) (Memref.isWhole_whole _)
      cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20
      = tileProg (F := F) i := rfl

end Cert.Proof.Tile
-- ==== Proof.Value.lean ====
/-
  What a tile's copies carry, index by index: the blocks of the indices, of the tile's copy of them and of the
  result, and the rows a gather brings. No program logic here.
-/
module

public import proofs.«01_k».proof.Proof.Tile
public import Idealize.ShloMosaic.Lib.ValueIdxCore

@[expose] public section

noncomputable section

namespace Cert.Proof.Tile

open Cert.KernelIdeal Cert.KernelIdeal.Gen
open Idealize.ShloMosaic Idealize.ShloMosaic.ValueIdx
open Idealize.SL Idealize.SL.Sem

variable {F : FTy → Type}

/-- The tile's number: two tiles per vector subcore's number, one on each SparseCore. -/
def wid (i : grid1.Coords) : Fin 32 :=
  ⟨2 * (i 1).val + (i 0).val, by
    have h0 : (i 0).val < 2 := (i 0).isLt
    have h1 : (i 1).val < 16 := (i 1).isLt
    omega⟩

/-- The result of the gather: entry `y` is the table's entry at the row the indices name for `y`'s first three
    coordinates, in `y`'s last column. -/
def outVal (ix : S32x20x128.Idx → Elt F .i32) (tab : S128x128.Idx → Elt F .f32) : S32x20x128x128.Idx → Elt F .f32 :=
  fun y => tab (ix2 (n0 := 128) (n1 := 128) ⟨(ix (ix3 (n0 := 32) (n1 := 20) (n2 := 128) (y 0) (y 1) (y 2))).toNat % 128, Nat.mod_lt _ (by decide)⟩ (y 3))

theorem emb_idxK (i : grid1.Coords) (x : S20x128.Idx) :
    (idxK i).view.emb x = ix3 (n0 := 32) (n1 := 20) (n2 := 128) (wid i) (x 0) (x 1) := by
  have hre : Shape.reshapeEquiv (s := S1x20x128) (s' := S20x128) squeezes_S1x20x128_S20x128.numel_eq x
      = ix3 (n0 := 1) (n1 := 20) (n2 := 128) 0 (x 0) (x 1) := by
    apply Shape.reshapeEquiv_eq_of_rowMajor
    rw [Shape.rowMajor_val_three, Shape.rowMajor_val_two]
    simp
  show (Rect.unit (s := S32x20x128) (k1_off1 i) S1x20x128.size (k1_off1_inb i)).emb
    (Shape.reshapeEquiv (s := S1x20x128) (s' := S20x128) squeezes_S1x20x128_S20x128.numel_eq x) = _
  rw [hre]
  funext a
  apply Fin.ext
  rw [Rect.emb_apply]
  have h := congrFun (k1_off1_eq i) a
  match a with
  | 0 => show k1_off1 i 0 + 1 * 0 = _; rw [h]; rfl
  | 1 => show k1_off1 i 1 + 1 * (x 0).val = _; rw [h]; simp
  | 2 => show k1_off1 i 2 + 1 * (x 1).val = _; rw [h]; simp

theorem emb_rowK (j : Fin 20) (x : S128.Idx) : (rowK j).view.emb x = ix2 (n0 := 20) (n1 := 128) j (x 0) := by
  have hre : Shape.reshapeEquiv (s := S1x128) (s' := S128) squeezes_S1x128_S128.numel_eq x
      = ix2 (n0 := 1) (n1 := 128) 0 (x 0) := by
    apply Shape.reshapeEquiv_eq_of_rowMajor
    rw [Shape.rowMajor_val_two, Shape.rowMajor_val_one]
    simp
  show (Rect.unit (s := S20x128) ![j.val, 0] S1x128.size (rowOff_inb j)).emb
    (Shape.reshapeEquiv (s := S1x128) (s' := S128) squeezes_S1x128_S128.numel_eq x) = _
  rw [hre]
  funext a
  apply Fin.ext
  rw [Rect.emb_apply]
  match a with
  | 0 => show j.val + 1 * 0 = j.val; simp
  | 1 => show 0 + 1 * (x 0).val = (x 0).val; simp

theorem emb_tabK (x : S128x128.Idx) : tabK.view.emb x = x := by
  show (Rect.unit (s := S128x128) ![0, 0] S128x128.size inb_S128x128_S128x128_0_0).emb x = x
  funext a
  apply Fin.ext
  rw [Rect.emb_apply]
  match a with
  | 0 => show 0 + 1 * (x 0).val = (x 0).val; simp
  | 1 => show 0 + 1 * (x 1).val = (x 1).val; simp

theorem emb_outK (j : Fin 20) (i : grid1.Coords) (x : S128x128.Idx) :
    (outK j i).view.emb x = ix4 (n0 := 32) (n1 := 20) (n2 := 128) (n3 := 128) (wid i) j (x 0) (x 1) := by
  have hre : Shape.reshapeEquiv (s := S1x1x128x128) (s' := S128x128) squeezes_S1x1x128x128_S128x128.numel_eq x
      = ix4 (n0 := 1) (n1 := 1) (n2 := 128) (n3 := 128) 0 0 (x 0) (x 1) := by
    apply Shape.reshapeEquiv_eq_of_rowMajor
    rw [Shape.rowMajor_val_four, Shape.rowMajor_val_two]
    simp
  show (Rect.unit (s := S32x20x128x128) (outOff j i) S1x1x128x128.size (outOff_inb j i)).emb
    (Shape.reshapeEquiv (s := S1x1x128x128) (s' := S128x128) squeezes_S1x1x128x128_S128x128.numel_eq x) = _
  rw [hre]
  funext a
  apply Fin.ext
  rw [Rect.emb_apply]
  have h := congrFun (outOff_eq j i) a
  match a with
  | 0 => show outOff j i 0 + 1 * 0 = _; rw [h]; rfl
  | 1 => show outOff j i 1 + 1 * 0 = _; rw [h]; rfl
  | 2 => show outOff j i 2 + 1 * (x 0).val = _; rw [h]; simp
  | 3 => show outOff j i 3 + 1 * (x 1).val = _; rw [h]; simp

/-- The part of the result a tile writes: the entries whose first coordinate is the tile's number. -/
def oTile (w : Fin 32) : Finset S32x20x128x128.Idx := Finset.univ.filter fun y => (y 0).val = w.val

theorem mem_oTile {w : Fin 32} {y : S32x20x128x128.Idx} : y ∈ oTile w ↔ y 0 = w :=
  Finset.mem_filter.trans ((and_iff_right (Finset.mem_univ y)).trans Fin.ext_iff.symm)

theorem set_outK_subset (j : Fin 20) (i : grid1.Coords) : (outK j i).view.set ⊆ oTile (wid i) := by
  intro y hy
  obtain ⟨x, -, rfl⟩ := Finset.mem_map.mp hy
  exact mem_oTile.mpr (congrFun (emb_outK j i x) 0)

theorem mem_set_outK {j : Fin 20} {i : grid1.Coords} {y : S32x20x128x128.Idx} (h0 : y 0 = wid i) (h1 : y 1 = j) :
    ∃ x : S128x128.Idx, (outK j i).view.emb x = y := by
  refine ⟨ix2 (n0 := 128) (n1 := 128) (y 2) (y 3), ?_⟩
  rw [emb_outK]
  refine Eq.trans ?_ (eq_ix4 (n0 := 32) (n1 := 20) (n2 := 128) (n3 := 128) y).symm
  rw [h0, h1]
  rfl

/-- The indices as a tile's copy of them holds them. -/
def ixOf (ix : S32x20x128.Idx → Elt F .i32) (w : Fin 32) : S20x128.Idx → Elt F .i32 :=
  fun x => ix (ix3 (n0 := 32) (n1 := 20) (n2 := 128) w (x 0) (x 1))

theorem read_idxK (ix : S32x20x128.Idx → Elt F .i32) (i : grid1.Coords) :
    (idxK i).view.read (Elt F) ix = ixOf ix (wid i) := by
  funext x
  refine (View.read_apply (v := (idxK i).view) (Val := Elt F) ix x).trans ((cast_eq _ _).trans ?_)
  exact congrArg ix (emb_idxK i x)

theorem read_rowK (f : S20x128.Idx → Elt F .i32) (j : Fin 20) (x : S128.Idx) :
    (rowK j).view.read (Elt F) f x = f (ix2 (n0 := 20) (n1 := 128) j (x 0)) := by
  refine (View.read_apply (v := (rowK j).view) (Val := Elt F) f x).trans ((cast_eq _ _).trans ?_)
  exact congrArg f (emb_rowK j x)

theorem read_tabK (f : S128x128.Idx → Elt F .f32) : tabK.view.read (Elt F) f = f := by
  funext x
  refine (View.read_apply (v := tabK.view) (Val := Elt F) f x).trans ((cast_eq _ _).trans ?_)
  exact congrArg f (emb_tabK x)

/-- What chunk `j` of tile `w` carries: its block of `outVal`. -/
def chunk (ix : S32x20x128.Idx → Elt F .i32) (tab : S128x128.Idx → Elt F .f32) (w : Fin 32) (j : Fin 20) : S128x128.Idx → Elt F .f32 :=
  fun x => outVal ix tab (ix4 (n0 := 32) (n1 := 20) (n2 := 128) (n3 := 128) w j (x 0) (x 1))

/-- The indices are rows of the table. -/
def InRange (ix : S32x20x128.Idx → Elt F .i32) : Prop := ∀ x, (ix x).toNat < 128

theorem row_inRange {ix : S32x20x128.Idx → Elt F .i32} (h : InRange ix) (w : Fin 32) (j : Fin 20) (x : S128.Idx) :
    ((rowK j).view.read (Elt F) (ixOf ix w) x).toNat < S128x128.size gathers_S128x128_S128x128.axis := by
  rw [read_rowK]; exact h _

/-- A gather over the table by row `j` of the tile's indices brings chunk `j`. -/
theorem gatherPayload_eq {ix : S32x20x128.Idx → Elt F .i32} (h : InRange ix) (tab : S128x128.Idx → Elt F .f32) (w : Fin 32) (j : Fin 20) :
    SparseCore.gatherPayload gathers_S128x128_S128x128 (tabK.view.read (Elt F) tab)
      (SparseCore.rows ((rowK j).view.read (Elt F) (ixOf ix w)) rfl (row_inRange h w j)) = chunk ix tab w j := by
  funext x
  unfold SparseCore.gatherPayload
  rw [read_tabK]
  show tab _ = tab _
  congr 1
  funext a
  match a with
  | 0 =>
    refine (Shape.Gathers.idx_axis gathers_S128x128_S128x128 _ x).trans ?_
    apply Fin.ext
    show ((rowK j).view.read (Elt F) (ixOf ix w) _).toNat = (ix _).toNat % 128
    rw [read_rowK, Nat.mod_eq_of_lt (h _)]
    show (ix _).toNat = (ix _).toNat
    congr 2
    funext b
    match b with
    | 0 => rfl
    | 1 => rfl
    | 2 =>
      apply Fin.ext
      have := Shape.rowMajor_val_one (S128.rowMajor.symm ((x 0).cast (rfl : (128 : ℕ) = S128.numel)))
      rw [Equiv.apply_symm_apply] at this
      exact this.symm
  | 1 => exact Fin.ext (Shape.Gathers.idx_of_ne gathers_S128x128_S128x128 _ x 1 (by decide))

/-- The result's buffer holds `outVal` on the tile's chunks below `n`. -/
def Done (ix : S32x20x128.Idx → Elt F .i32) (tab : S128x128.Idx → Elt F .f32) (w : Fin 32) (n : ℕ) (f : S32x20x128x128.Idx → Elt F .f32) : Prop :=
  ∀ y, y 0 = w → (y 1).val < n → f y = outVal ix tab y

/-- Writing chunk `j` to its block adds it to the chunks done. -/
theorem Done.write {ix : S32x20x128.Idx → Elt F .i32} {tab : S128x128.Idx → Elt F .f32} {i : grid1.Coords} {j : Fin 20}
    {f : S32x20x128x128.Idx → Elt F .f32} (h : Done ix tab (wid i) j.val f) :
    Done ix tab (wid i) (j.val + 1) ((outK j i).view.write (Elt F) f (chunk ix tab (wid i) j) Finset.univ) := by
  intro y h0 h1
  by_cases hj : y 1 = j
  · obtain ⟨x, rfl⟩ := mem_set_outK h0 hj
    refine (View.write_emb_of_mem (v := (outK j i).view) (Val := Elt F) f _ (Finset.mem_univ x)).trans ((cast_eq _ _).trans ?_)
    exact congrArg (outVal ix tab) (emb_outK j i x).symm
  · have hn : y ∉ (outK j i).view.setOn Finset.univ := by
      intro hy
      obtain ⟨x, -, rfl⟩ := Finset.mem_map.mp hy
      exact hj (congrFun (emb_outK j i x) 1)
    refine (View.write_of_not_mem (v := (outK j i).view) (Val := Elt F) f _ _ hn).trans (h y h0 ?_)
    have : (y 1).val ≠ j.val := fun e => hj (Fin.ext e)
    omega

end Cert.Proof.Tile
-- ==== Proof.Setup.lean ====
/-
  The program as the launch theorem sees it, its ghost state, and what the SparseCore call is handed and brings
  back: to every tile a share of the indices and of the table and its block of the result, which comes back
  holding the gathered rows.
-/
module

public import proofs.«01_k».proof.Proof.Value

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## Ghost state: the handshakes' rounds, the pipeline's rounds, the transfers' counters -/

abbrev UH : Type := URounds (GSem nD τ sig) ℕ
abbrev UP : Type := URounds (GSem nD τ sig) Unit
abbrev UU : Type := (UH × UP) × Counters

/-- The model the proof's assertions are over. -/
abbrev MM (F : FTy → Type) : Type := MT nD τ sig (HIx 1) (Elt F) ℕ UU ℕ
local notation "𝕄" => MT nD τ sig (HIx 1) (Elt F) ℕ UU ℕ

def EH : Emb UH (MT nD τ sig (HIx 1) (Elt F) ℕ UU ℕ) := (Emb.inl : Emb UH (UH × UP)).trans embL
def EP : Emb UP (MT nD τ sig (HIx 1) (Elt F) ℕ UU ℕ) := (Emb.inr : Emb UP (UH × UP)).trans embL

instance EH_landsIn : (EH (F := F)).LandsIn (upEmb : UEmb _ 𝕄) := by unfold EH embL; infer_instance
instance EP_landsIn : (EP (F := F)).LandsIn (upEmb : UEmb _ 𝕄) := by unfold EP embL; infer_instance

/-! ## The call's operands and result -/

abbrev iLoc (d : Dev nD) : Loc nD τ sig := (SparseCore.T d).loc main_v4
abbrev xLoc (d : Dev nD) : Loc nD τ sig := (SparseCore.T d).loc main_v3
abbrev oLoc (d : Dev nD) : Loc nD τ sig := (SparseCore.T d).loc main_v5

/-- Tile `w`'s share of a buffer every tile reads whole: one of thirty-two. -/
def share (w : Fin 32) : PosShare TreeShare := Idealize.ShloMosaic.pieceOf fullShare 32 (by decide) w

/-- The number of the tile on vector subcore `s` of SparseCore `c`. -/
def tileOf (c : Fin 2) (s : Fin 16) : Fin 32 := ⟨2 * s.val + c.val, by omega⟩

/-- What the call runs over: the indices, the table, the result's contents before. -/
structure Args (F : FTy → Type) where
  ix : Dev nD → S32x20x128.Idx → Elt F .i32
  tab : Dev nD → S128x128.Idx → Elt F .f32
  o0 : Dev nD → S32x20x128x128.Idx → Elt F .f32

variable (a : Args F)

abbrev inPts (d : Dev nD) (w : Fin 32) : sProp 𝕄 := iprop((iLoc d ↦{share w} a.ix d) ∗ (xLoc d ↦{share w} a.tab d))
/-- What tile `w` is handed, -/
abbrev goPts (d : Dev nD) (w : Fin 32) : sProp 𝕄 := iprop(inPts a d w ∗ oLoc d ↦[oTile w]{fullShare} a.o0 d)
/-- and what it brings back: the gathered rows in its block. -/
abbrev tdPts (d : Dev nD) (w : Fin 32) : sProp 𝕄 := iprop(inPts a d w ∗ oLoc d ↦[oTile w]{fullShare} outVal (a.ix d) (a.tab d))

/-- What the call's handshakes carry. -/
def P : (K (F := F)).Pay (nD := nD) (Val := Elt F) (Name := ℕ) (U := UU) where
  st := fun q d c => match q with | 0 => bigSep Finset.univ fun s : Fin 16 => goPts a d (tileOf (Fin.cast nCore_zero c) s)
  dn := fun q d c => match q with | 0 => bigSep Finset.univ fun s : Fin 16 => tdPts a d (tileOf (Fin.cast nCore_zero c) s)
  go := fun q d c s => match q with | 0 => goPts a d (tileOf (Fin.cast nCore_zero c) (Fin.cast nSub_zero s))
  td := fun q d c s => match q with | 0 => tdPts a d (tileOf (Fin.cast nCore_zero c) (Fin.cast nSub_zero s))
  x := fun _ _ => iprop(emp)

instance P_storable : (P (F := F) a).IsStorable where
  st q d c := match q with
    | 0 => (inferInstance : BI.Storable (upEmb : UEmb _ 𝕄) (bigSep Finset.univ fun s : Fin 16 => goPts a d (tileOf (Fin.cast nCore_zero c) s)))
  dn q d c := match q with
    | 0 => (inferInstance : BI.Storable (upEmb : UEmb _ 𝕄) (bigSep Finset.univ fun s : Fin 16 => tdPts a d (tileOf (Fin.cast nCore_zero c) s)))
  go q d c s := match q with
    | 0 => (inferInstance : BI.Storable (upEmb : UEmb _ 𝕄) (goPts a d (tileOf (Fin.cast nCore_zero c) (Fin.cast nSub_zero s))))
  td q d c s := match q with
    | 0 => (inferInstance : BI.Storable (upEmb : UEmb _ 𝕄) (tdPts a d (tileOf (Fin.cast nCore_zero c) (Fin.cast nSub_zero s))))

theorem bigSep_tiles (Φ : Fin 16 → sProp 𝕄) :
    (bigSep Finset.univ fun s : Fin ((K (F := F)).nSub 0) => Φ (Fin.cast nSub_zero s)) = bigSep Finset.univ Φ :=
  bigSep_congr fun _ _ => congrArg Φ (Fin.ext rfl)

/-- A SparseCore's half of the call is its tiles' parts. -/
theorem vecSplit : (K (F := F)).VecSplit' (P a) 0 := by
  intro d c
  show (bigSep Finset.univ fun s : Fin 16 => goPts a d (tileOf (Fin.cast nCore_zero c) s)) ⊢ |={Set.univ}=> iprop(
      (bigSep Finset.univ fun s : Fin ((K (F := F)).nSub 0) => goPts a d (tileOf (Fin.cast nCore_zero c) (Fin.cast nSub_zero s)))
      ∗ ((bigSep Finset.univ fun s : Fin ((K (F := F)).nSub 0) => tdPts a d (tileOf (Fin.cast nCore_zero c) (Fin.cast nSub_zero s)))
          -∗ bigSep Finset.univ fun s : Fin 16 => tdPts a d (tileOf (Fin.cast nCore_zero c) s)))
  rw [bigSep_tiles (F := F) (fun s => goPts a d (tileOf (Fin.cast nCore_zero c) s)),
    bigSep_tiles (F := F) (fun s => tdPts a d (tileOf (Fin.cast nCore_zero c) s))]
  iintro H; imodintro
  isplitl [H]; · iexact H
  iintro H; iexact H

end Cert.Proof.Tile
-- ==== Proof.Body.lean ====
/-
  The tile's run: from its share of the indices and of the table and its block of the result to that block
  holding the gathered rows.
-/
module

public import proofs.«01_k».proof.Proof.Setup

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## A tile's own buffers and semaphores -/

abbrev cV (i : grid1.Coords) : Fin τ.nSC := (i 0).castLE hcore1
abbrev jV (i : grid1.Coords) : Fin τ.nSub := (i 1).castLE hsub1
/-- The tile's thread. -/
abbrev th (d : Dev nD) (i : grid1.Coords) : Thread nD τ := V d (cV i) (jV i)

abbrev semPts (t : Thread nD τ) (s : DmaSem sig) : sProp 𝕄 := semVal ((t, SemLoc.dma s) : GSem nD τ sig) 0

theorem wsem_inj : ∀ j k : Fin 20, (wsem j).sem = (wsem k).sem → j = k := by decide
theorem wsem_ne : ∀ j : Fin 20, (wsem j).sem ≠ cc1_scoped0.sem ∧ (wsem j).sem ≠ (gsem 0).sem ∧ (wsem j).sem ≠ (gsem 1).sem := by decide
theorem wsem_scoped : ∀ j : Fin 20, (SemLoc.dma (wsem j).sem : SemLoc sig).isScoped .scVector = true := by decide

/-- The cells of the copies out. -/
def wcells (t : Thread nD τ) : Finset (GSem nD τ sig) := Finset.univ.image fun j : Fin 20 => (t, SemLoc.dma (wsem j).sem)

theorem dma_ne {t : Thread nD τ} {s s' : DmaSem sig} (h : s ≠ s') : ((t, SemLoc.dma s) : GSem nD τ sig) ≠ (t, SemLoc.dma s') :=
  fun e => h (by injection (Prod.mk.inj e).2)

variable (d : Dev nD) (i : grid1.Coords)

/-- The tile's semaphores: the index fetch's, the two gathers', the copies' out, and the rest. -/
theorem ownSems0_tile :
    ∃ R : sProp 𝕄, (ownSems0 (th d i) : sProp 𝕄)
      = iprop(semPts (th d i) cc1_scoped0.sem ∗ semPts (th d i) (gsem 0).sem ∗ semPts (th d i) (gsem 1).sem
          ∗ (bigSep Finset.univ fun j : Fin 20 => semPts (th d i) (wsem j).sem) ∗ R) := by
  have h0 : ((th d i, SemLoc.dma cc1_scoped0.sem) : GSem nD τ sig) ∈ ownCells (th d i) := mem_ownCells.mpr ⟨rfl, by
    show (SemLoc.dma cc1_scoped0.sem : SemLoc sig).isScoped .scVector = true; decide⟩
  have h1 : ((th d i, SemLoc.dma (gsem 0).sem) : GSem nD τ sig) ∈ ownCells (th d i) := mem_ownCells.mpr ⟨rfl, by
    show (SemLoc.dma (gsem 0).sem : SemLoc sig).isScoped .scVector = true; decide⟩
  have h2 : ((th d i, SemLoc.dma (gsem 1).sem) : GSem nD τ sig) ∈ ownCells (th d i) := mem_ownCells.mpr ⟨rfl, by
    show (SemLoc.dma (gsem 1).sem : SemLoc sig).isScoped .scVector = true; decide⟩
  have n10 : (gsem 0).sem ≠ cc1_scoped0.sem := by decide
  have n20 : (gsem 1).sem ≠ cc1_scoped0.sem := by decide
  have n21 : (gsem 1).sem ≠ (gsem 0).sem := by decide
  have hsub : wcells (th d i) ⊆ (((ownCells (th d i)).erase (th d i, SemLoc.dma cc1_scoped0.sem)).erase (th d i, SemLoc.dma (gsem 0).sem)).erase
      (th d i, SemLoc.dma (gsem 1).sem) := by
    intro g hg
    obtain ⟨j, -, rfl⟩ := Finset.mem_image.mp hg
    exact Finset.mem_erase.mpr ⟨dma_ne (wsem_ne j).2.2, Finset.mem_erase.mpr ⟨dma_ne (wsem_ne j).2.1, Finset.mem_erase.mpr ⟨dma_ne (wsem_ne j).1,
      mem_ownCells.mpr ⟨rfl, wsem_scoped j⟩⟩⟩⟩
  unfold SparseCore.Cfg.ownSems0
  rw [SparseCore.bigSep_erase' h0, SparseCore.bigSep_erase' (Finset.mem_erase.mpr ⟨dma_ne n10, h1⟩),
    SparseCore.bigSep_erase' (Finset.mem_erase.mpr ⟨dma_ne n21, Finset.mem_erase.mpr ⟨dma_ne n20, h2⟩⟩),
    SparseCore.bigSep_sdiff_split' hsub]
  unfold wcells
  rw [SparseCore.bigSep_image_of_injOn (fun j _ k _ e => wsem_inj j k (by injection (Prod.mk.inj e).2))]
  exact ⟨_, rfl⟩

/-- The tile's buffers: its copy of the indices, the two row buffers, and the rest. -/
theorem ownBufs_tile :
    ∃ R : sProp 𝕄, (ownBufs (th d i) : sProp 𝕄)
      = iprop((∃ f, (th d i).loc cc1_scratch0 ↦{fullShare} f) ∗ (∃ f, (th d i).loc cc1_scratch1 ↦{fullShare} f)
          ∗ (∃ f, (th d i).loc cc1_scratch2 ↦{fullShare} f) ∗ R) := by
  have h0 := SparseCore.Cfg.mem_ownRefs_of_owner (p := Proc.scVector (cV i) (jV i)) (b := (Proc.scVector (cV i) (jV i)).devRef cc1_scratch0) rfl
  unfold SparseCore.Cfg.ownBufs
  rw [show (th d i).2 = Proc.scVector (cV i) (jV i) from rfl, SparseCore.bigSep_erase' h0,
    SparseCore.bigSep_erase' (Finset.mem_erase.mpr ⟨fun e => absurd (Proc.devRef_injective _ e) (show (cc1_scratch1 : Ref sig .scVector) ≠ cc1_scratch0 by decide),
      SparseCore.Cfg.mem_ownRefs_of_owner (p := Proc.scVector (cV i) (jV i)) (b := (Proc.scVector (cV i) (jV i)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
      SparseCore.Cfg.mem_ownRefs_of_owner (p := Proc.scVector (cV i) (jV i)) (b := (Proc.scVector (cV i) (jV i)).devRef cc1_scratch2) rfl⟩⟩)]
  exact ⟨_, rfl⟩

/-! ## A gather and a chunk's copy out -/

variable [FloatOps F] (a : Args F)

/-- The halves of a share the two row buffers' gathers read with. -/
def half (q : PosShare TreeShare) : Fin 2 → PosShare TreeShare
  | 0 => q.left
  | 1 => q.right

/-- What a gather into buffer `b` reads: a half of the tile's share of the table and half of its copy of the indices. -/
abbrev srcPts (b : Fin 2) : sProp 𝕄 :=
  iprop((xLoc d ↦{half (share (wid i)) b} a.tab d) ∗ ((th d i).loc cc1_scratch0 ↦{half fullShare b} ixOf (a.ix d) (wid i)))
/-- Row buffer `b` at rest. -/
abbrev idle (b : Fin 2) : sProp 𝕄 :=
  iprop((∃ f, (bufA b).view.loc (th d i) ↦{fullShare} f) ∗ srcPts d i a b ∗ semPts (th d i) (gsem b).sem)
/-- Row buffer `b` with chunk `j`'s gather under way. -/
abbrev busy (b : Fin 2) (j : Fin 20) : sProp 𝕄 :=
  Transfers.Flight countersEmb (th d i) (.dma (gsem b).sem) (default : HIx 1) (bufA b).view.dmaCredit
    iprop((∃ f, ⌜(bufA b).view.read (Elt F) f = chunk (a.ix d) (a.tab d) (wid i) j⌝ ∗ (bufA b).view.loc (th d i) ↦{fullShare} f) ∗ srcPts d i a b)

theorem gather_credit : ∀ (b : Fin 2) (h : S128x128.Gathers 0 S128x128),
    ∑ j, ((bufA b).slice (S128x128.rowRect h.axis' j) (S128x128.stride_rowRect h.axis' j)).view.dmaCredit = (bufA b).view.dmaCredit
  | 0 => by decide
  | 1 => by decide

/-- Starting chunk `j`'s gather into a row buffer at rest. -/
theorem wp_gat (hin : InRange (a.ix d)) (b : Fin 2) (j : Fin 20) (Φ : PUnit → sProp 𝕄) :
    iprop(idle d i a b ∗ (busy d i a b j -∗ Φ ⟨⟩))
      ⊢ wp frame (wpE (defs₀ (F := F)) 𝒱₀ (th d i) none) Set.univ (gat i b j) Φ := by
  iintro ⟨⟨⟨%f, Hb⟩, ⟨Hx, Hi⟩, Hs⟩, Hk⟩
  rw [← Prog.bind_pure (gat (F := F) i b j)]
  unfold gat
  iapply (SparseCore.wp_gatherFromWhole countersEmb 𝒱₀ (th d i) none (src := tabK) (dst := bufA b) (hg := gathers_S128x128_S128x128)
      (offs := rowK j) (hn := rfl) (fs := a.tab d) (fd := f) (fo := ixOf (a.ix d) (wid i)) (default : HIx 1)
      (bufA b).view.dmaCredit (gather_credit b _) (by decide) (row_inRange hin (wid i) j)) $$ [Hb Hx Hi Hs]
  · isplitl [Hx]; · iexact Hx
    isplitl [Hb]; · iexact Hb
    isplitl [Hi]; · iexact Hi
    iexact Hs
  iintro Hfl
  sl_step
  iapply Hk
  iapply (Transfers.Flight_mono countersEmb (th d i) ?_) $$ Hfl
  iintro ⟨Hb, Hx, Hi⟩
  isplitl [Hb]
  · iexists _; isplitr
    swap; · iexact Hb
    ipureintro
    exact (View.read_write_univ _ _).trans (gatherPayload_eq hin (a.tab d) (wid i) j)
  isplitl [Hx] <;> iassumption

/-- The result's block with the chunks below `n` done. -/
abbrev outPts (n : ℕ) : sProp 𝕄 := iprop(∃ f, ⌜Done (a.ix d) (a.tab d) (wid i) n f⌝ ∗ oLoc d ↦[oTile (wid i)]{fullShare} f)
/-- The copies' out semaphores at rest. -/
abbrev wsems : sProp 𝕄 := bigSep Finset.univ fun j : Fin 20 => (semPts (th d i) (wsem j).sem : sProp 𝕄)
/-- What the tile owes, as it has been since the start, the waits of its own copies apart. -/
abbrev owing (O : CellTallies nD τ sig (HIx 1)) (W : Waits sig (HIx 1)) : sProp 𝕄 :=
  iprop(∃ W', ⌜∀ p ∈ W', p ∈ W ∨ p.2 = none⌝ ∗ owes (th d i) O W')
abbrev lev : sProp 𝕄 := levAts (K (F := F)).L (K (F := F)).lev

/-- The copies' out semaphores, one apart. -/
theorem wsems_take (j : Fin 20) :
    (wsems d i : sProp 𝕄) = iprop(semPts (th d i) (wsem j).sem ∗ bigSep (Finset.univ.erase j) fun k : Fin 20 => (semPts (th d i) (wsem k).sem : sProp 𝕄)) :=
  SparseCore.bigSep_erase' (Finset.mem_univ j)

theorem waits_insert {W W' : Waits sig (HIx 1)} {s : SemLoc sig} (h : ∀ p ∈ W', p ∈ W ∨ p.2 = none) :
    ∀ p ∈ insert (s, (default : HIx 1)) W', p ∈ W ∨ p.2 = none := by
  intro p hp
  rcases Finset.mem_insert.mp hp with rfl | hp
  · exact .inr rfl
  · exact h p hp

/-- Chunk `j` out: its gather waited for, its rows copied to its block and the copy waited for; the buffer at rest again. -/
theorem wp_out (O : CellTallies nD τ sig (HIx 1)) (W : Waits sig (HIx 1)) (hO : ∀ g, O g none = 0) (b : Fin 2) (j : Fin 20) (Φ : PUnit → sProp 𝕄) :
    iprop(lev ∗ busy d i a b j ∗ outPts d i a j.val ∗ wsems d i ∗ owing d i O W
        ∗ (iprop(idle d i a b ∗ outPts d i a (j.val + 1) ∗ wsems d i ∗ owing d i O W) -∗ Φ ⟨⟩))
      ⊢ wp frame (wpE (defs₀ (F := F)) 𝒱₀ (th d i) none) Set.univ (out i b j) Φ := by
  iintro ⟨#Hlv, Hfl, ⟨%f, %hf, Ho⟩, Hws, ⟨%W₁, %hW₁, HO⟩, Hk⟩
  ihave Hmw := (show levAts (K (F := F)).L (K (F := F)).lev ⊢ Transfers.MayWaits (th d i) (default : HIx 1) O from
    (K (F := F)).mayWaits_none (thr := th d i) hO) $$ Hlv
  ihave Hws' := (Entails.of_eq (wsems_take (F := F) d i j)) $$ Hws
  icases Hws' with ⟨Hw, Hws⟩
  unfold out
  iapply (Transfers.wp_waitLocalO countersEmb 𝒱₀ (th d i) none (default : HIx 1) (rfl : (bufA b).view.dmaCredit = _)) $$ [Hfl HO]
  · isplitl [Hfl]; · iexact Hfl
    isplitl [HO]; · iexact HO
    iapply (Transfers.MayWaits.elim (SemLoc.dma (gsem b).sem)) $$ Hmw
  iintro ⟨⟨⟨%g, %hg, Hb⟩, Hsrc⟩, Hs, HO⟩
  iapply (Transfers.wp_dmaFromWhole countersEmb 𝒱₀ (th d i) none (src := bufA b) (dst := outK j i) (via := .same) (sm := .dma (wsem j).sem)
      (fs := g) (fd := f) (Sd := oTile (wid i)) (default : HIx 1) (outK j i).view.dmaCredit rfl (View.dmaCredit_pos _ (by decide)) (set_outK_subset j i)) $$ [Hb Ho Hw]
  · isplitl [Hb]; · iexact Hb
    isplitl [Ho]; · iexact Ho
    iexact Hw
  iintro Hfl
  iapply (Transfers.wp_waitLocalO countersEmb 𝒱₀ (th d i) none (default : HIx 1) (rfl : (outK j i).view.dmaCredit = _)) $$ [Hfl HO]
  · isplitl [Hfl]; · iexact Hfl
    isplitl [HO]; · iexact HO
    iapply (Transfers.MayWaits.elim (SemLoc.dma (wsem j).sem)) $$ Hmw
  iintro ⟨⟨Ho, Hb⟩, Hw, HO⟩
  sl_step
  iapply Hk
  isplitl [Hb Hsrc Hs]
  · isplitl [Hb]; · iexists _; iexact Hb
    isplitl [Hsrc] <;> iassumption
  isplitl [Ho]
  · iexists _; isplitr
    swap; · iexact Ho
    ipureintro
    rw [hg]
    exact hf.write
  isplitl [Hw Hws]
  · iapply (Entails.of_eq (wsems_take (F := F) d i j).symm)
    isplitl [Hw] <;> iassumption
  iexists _; isplitr
  swap; · iexact HO
  ipureintro
  exact waits_insert (waits_insert hW₁)

/-! ## The chunks in order -/

/-- A list counting up from `n` to 17. -/
def Counts : ℕ → List (Fin 18) → Prop
  | n, [] => n = 18
  | n, j :: l => j.val = n ∧ Counts (n + 1) l

theorem par_add_two (j : Fin 18) : par (j.natAdd 2) = par (lo j) := by
  apply Fin.ext
  simp [par, lo]

/-- The steps from chunk `n` on, with the gathers of chunks `n` and `n + 1` under way. -/
theorem wp_steps (hin : InRange (a.ix d)) (O : CellTallies nD τ sig (HIx 1)) (W : Waits sig (HIx 1)) (hO : ∀ g, O g none = 0)
    (k : TProg F i) (Φ : PUnit → sProp 𝕄) : ∀ (l : List (Fin 18)) (n : ℕ) (_ : Counts n l) (p p' : Fin 20) (_ : p.val = n) (_ : p'.val = n + 1),
    iprop(lev ∗ busy d i a (par p) p ∗ busy d i a (par p') p' ∗ outPts d i a n ∗ wsems d i ∗ owing d i O W
        ∗ (iprop(busy d i a 0 18 ∗ busy d i a 1 19 ∗ outPts d i a 18 ∗ wsems d i ∗ owing d i O W)
            -∗ wp frame (wpE (defs₀ (F := F)) 𝒱₀ (th d i) none) Set.univ k Φ))
      ⊢ wp frame (wpE (defs₀ (F := F)) 𝒱₀ (th d i) none) Set.univ (steps i k l) Φ
  | [], n, hl, p, p', hp, hp' => by
    obtain rfl : n = 18 := hl
    obtain rfl : p = 18 := Fin.ext hp
    obtain rfl : p' = 19 := Fin.ext hp'
    show _ ⊢ wp frame (wpE (defs₀ (F := F)) 𝒱₀ (th d i) none) Set.univ k Φ
    iintro ⟨-, H0, H1, Ho, Hws, HO, Hk⟩
    iapply Hk
    isplitl [H0]; · iexact H0
    isplitl [H1]; · iexact H1
    isplitl [Ho]; · iexact Ho
    isplitl [Hws] <;> iassumption
  | j :: l, n, hl, p, p', hp, hp' => by
    obtain ⟨hj, hl⟩ := hl
    obtain rfl : p = lo j := Fin.ext (hp.trans hj.symm)
    subst hj
    show _ ⊢ wp frame (wpE (defs₀ (F := F)) 𝒱₀ (th d i) none) Set.univ (step i j >>= fun _ => steps i k l) Φ
    unfold step
    simp only [wp_bind]
    iintro ⟨#Hlv, H0, H1, Ho, Hws, HO, Hk⟩
    iapply (wp_out d i a O W hO (par (lo j)) (lo j) _)
    isplitr; · iexact Hlv
    isplitl [H0]; · iexact H0
    isplitl [Ho]; · iexact Ho
    isplitl [Hws]; · iexact Hws
    isplitl [HO]; · iexact HO
    iintro ⟨Hb, Ho, Hws, HO⟩
    iapply (wp_gat d i a hin (par (lo j)) (j.natAdd 2) _)
    isplitl [Hb]; · iexact Hb
    iintro Hb
    ihave Hb' := (Entails.of_eq (show (busy d i a (par (lo j)) (j.natAdd 2) : sProp 𝕄)
      = busy d i a (par (j.natAdd 2)) (j.natAdd 2) by rw [par_add_two])) $$ Hb
    iapply (wp_steps hin O W hO k Φ l (j.val + 1) hl p' (j.natAdd 2) hp' (by simp; omega))
    isplitr; · iexact Hlv
    isplitl [H1]; · iexact H1
    isplitl [Hb']; · iexact Hb'
    isplitl [Ho]; · iexact Ho
    isplitl [Hws]; · iexact Hws
    isplitl [HO]; · iexact HO
    iexact Hk

/-- The last two chunks: both gathers come in, and nothing more is started. -/
theorem wp_last (O : CellTallies nD τ sig (HIx 1)) (W : Waits sig (HIx 1)) (hO : ∀ g, O g none = 0) (Φ : PUnit → sProp 𝕄) :
    iprop(lev ∗ busy d i a 0 18 ∗ busy d i a 1 19 ∗ outPts d i a 18 ∗ wsems d i ∗ owing d i O W
        ∗ (iprop(idle d i a 0 ∗ idle d i a 1 ∗ outPts d i a 20 ∗ wsems d i ∗ owing d i O W) -∗ Φ ⟨⟩))
      ⊢ wp frame (wpE (defs₀ (F := F)) 𝒱₀ (th d i) none) Set.univ (last i) Φ := by
  unfold last
  simp only [wp_bind]
  iintro ⟨#Hlv, H0, H1, Ho, Hws, HO, Hk⟩
  iapply (wp_out d i a O W hO 0 18 _)
  isplitr; · iexact Hlv
  isplitl [H0]; · iexact H0
  isplitl [Ho]; · iexact Ho
  isplitl [Hws]; · iexact Hws
  isplitl [HO]; · iexact HO
  iintro ⟨H0, Ho, Hws, HO⟩
  iapply (wp_out d i a O W hO 1 19 _)
  isplitr; · iexact Hlv
  isplitl [H1]; · iexact H1
  isplitl [Ho]; · iexact Ho
  isplitl [Hws]; · iexact Hws
  isplitl [HO]; · iexact HO
  iintro ⟨H1, Ho, Hws, HO⟩
  iapply Hk
  isplitl [H0]; · iexact H0
  isplitl [H1]; · iexact H1
  isplitl [Ho]; · iexact Ho
  isplitl [Hws] <;> iassumption

/-- All twenty chunks, from both row buffers at rest to both at rest. -/
theorem wp_chunks (hin : InRange (a.ix d)) (O : CellTallies nD τ sig (HIx 1)) (W : Waits sig (HIx 1)) (hO : ∀ g, O g none = 0) (Φ : PUnit → sProp 𝕄) :
    iprop(lev ∗ idle d i a 0 ∗ idle d i a 1 ∗ outPts d i a 0 ∗ wsems d i ∗ owing d i O W
        ∗ (iprop(idle d i a 0 ∗ idle d i a 1 ∗ outPts d i a 20 ∗ wsems d i ∗ owing d i O W) -∗ Φ ⟨⟩))
      ⊢ wp frame (wpE (defs₀ (F := F)) 𝒱₀ (th d i) none) Set.univ (chunks i) Φ := by
  have hc : Counts 0 [0, 1, 2, 3, 4, 5, 6, 7, 8, 9, 10, 11, 12, 13, 14, 15, 16, 17] := by
    repeat' first | exact rfl | refine ⟨rfl, ?_⟩
  unfold chunks
  generalize ([0, 1, 2, 3, 4, 5, 6, 7, 8, 9, 10, 11, 12, 13, 14, 15, 16, 17] : List (Fin 18)) = l at hc ⊢
  simp only [wp_bind]
  iintro ⟨#Hlv, H0, H1, Ho, Hws, HO, Hk⟩
  iapply (wp_gat d i a hin 0 0 _)
  isplitl [H0]; · iexact H0
  iintro H0
  iapply (wp_gat d i a hin 1 1 _)
  isplitl [H1]; · iexact H1
  iintro H1
  iapply (wp_steps d i a hin O W hO (last i) Φ l 0 hc 0 1 rfl rfl)
  isplitr; · iexact Hlv
  isplitl [H0]; · iexact H0
  isplitl [H1]; · iexact H1
  isplitl [Ho]; · iexact Ho
  isplitl [Hws]; · iexact Hws
  isplitl [HO]; · iexact HO
  iintro ⟨H0, H1, Ho, Hws, HO⟩
  iapply (wp_last d i a O W hO Φ)
  isplitr; · iexact Hlv
  isplitl [H0]; · iexact H0
  isplitl [H1]; · iexact H1
  isplitl [Ho]; · iexact Ho
  isplitl [Hws]; · iexact Hws
  isplitl [HO]; · iexact HO
  iexact Hk

/-! ## The whole run -/

/-- The tile of device `d` at `i`: handed its part of the call, it returns it with its block of the result holding
    the gathered rows. -/
theorem tile_body (hin : InRange (a.ix d)) (O : CellTallies nD τ sig (HIx 1)) (W : Waits sig (HIx 1)) (hO : ∀ g, O g none = 0) :
    iprop(lev ∗ emp ∗ goPts a d (wid i) ∗ scopedBufs (th d i) ∗ scopedSems0 (th d i) ∗ owes (th d i) O W)
      ⊢ wp frame (wpE (defs₀ (F := F)) 𝒱₀ (th d i) none) Set.univ (tileProg i)
          fun _ => iprop(tdPts a d (wid i) ∗ scopedBufs (th d i) ∗ scopedSems0 (th d i) ∗ owing d i O W) := by
  obtain ⟨RS, hRS⟩ := ownSems0_tile (F := F) d i
  obtain ⟨RB, hRB⟩ := ownBufs_tile (F := F) d i
  rw [(K (F := F)).scopedBufs_V facts d (cV i) (jV i), SparseCore.Cfg.scopedSems0_V (Val := Elt F) d (cV i) (jV i), hRS, hRB]
  iintro ⟨#Hlv, -, ⟨⟨Hi, Hx⟩, Ho⟩, ⟨⟨%fs, Hix⟩, ⟨%f1, Hb1⟩, ⟨%f2, Hb2⟩, HRB⟩, ⟨Hs, Hg0, Hg1, Hws, HRS⟩, HO⟩
  ihave Hmw := (show levAts (K (F := F)).L (K (F := F)).lev ⊢ Transfers.MayWaits (th d i) (default : HIx 1) O from
    (K (F := F)).mayWaits_none (thr := th d i) hO) $$ Hlv
  unfold tileProg
  iapply (Transfers.wp_dmaFromWhole countersEmb 𝒱₀ (th d i) none (src := idxK i) (dst := ixA) (via := .same) (sm := .dma cc1_scoped0.sem)
      (fs := a.ix d) (fd := fs) (Sd := Finset.univ) (default : HIx 1) ixA.view.dmaCredit rfl (View.dmaCredit_pos _ (by decide)) (Finset.subset_univ _)) $$ [Hi Hix Hs]
  · isplitl [Hi]; · iexact Hi
    isplitl [Hix]; · iexact Hix
    iexact Hs
  iintro Hfl
  iapply (Transfers.wp_waitLocalO countersEmb 𝒱₀ (th d i) none (default : HIx 1) (rfl : ixA.view.dmaCredit = _)) $$ [Hfl HO]
  · isplitl [Hfl]; · iexact Hfl
    isplitl [HO]; · iexact HO
    iapply (Transfers.MayWaits.elim (SemLoc.dma cc1_scoped0.sem)) $$ Hmw
  iintro ⟨⟨Hix, Hi⟩, Hs, HO⟩
  have hix : (ixA.view.write (Elt F) fs ((ReadAs.same : ReadAs (Elt F) S20x128 .i32 S20x128 .i32).apply ((idxK i).view.read (Elt F) (a.ix d))) Finset.univ)
      = ixOf (a.ix d) (wid i) := (View.write_whole_univ _ _ _).trans (read_idxK (a.ix d) i)
  ihave Hix2 := ((pointsTo_share (ℓ := (th d i).loc cc1_scratch0) (I := Finset.univ) (f := ixOf (a.ix d) (wid i)) (PosShare.mem_left_op_right fullShare)).1) $$ [Hix]
  · iapply (Entails.of_eq (congrArg (fun f => ((th d i).loc cc1_scratch0 ↦{fullShare} f : sProp 𝕄)) hix)); iexact Hix
  icases Hix2 with ⟨HiL, HiR⟩
  ihave Hx2 := ((pointsTo_share (ℓ := xLoc d) (I := Finset.univ) (f := a.tab d) (PosShare.mem_left_op_right (share (wid i)))).1) $$ Hx
  icases Hx2 with ⟨HxL, HxR⟩
  iapply (wp_chunks d i a hin O W hO _)
  isplitr; · iexact Hlv
  isplitl [Hb1 HxL HiL Hg0]
  · isplitl [Hb1]; · iexists f1; iexact Hb1
    isplitl [HxL HiL]
    · isplitl [HxL]; · iexact HxL
      iexact HiL
    iexact Hg0
  isplitl [Hb2 HxR HiR Hg1]
  · isplitl [Hb2]; · iexists f2; iexact Hb2
    isplitl [HxR HiR]
    · isplitl [HxR]; · iexact HxR
      iexact HiR
    iexact Hg1
  isplitl [Ho]
  · iexists (a.o0 d); isplitr
    swap; · iexact Ho
    ipureintro
    intro y _ h; exact absurd h (Nat.not_lt_zero _)
  isplitl [Hws]; · iexact Hws
  isplitl [HO]
  · iexists _; isplitr
    swap; · iexact HO
    ipureintro
    exact waits_insert fun p hp => .inl hp
  iintro ⟨⟨⟨%g1, Hb1⟩, ⟨HxL, HiL⟩, Hg0⟩, ⟨⟨%g2, Hb2⟩, ⟨HxR, HiR⟩, Hg1⟩, ⟨%f, %hf, Ho⟩, Hws, HO⟩
  ihave Hx := ((pointsTo_share (ℓ := xLoc d) (I := Finset.univ) (f := a.tab d) (PosShare.mem_left_op_right (share (wid i)))).2) $$ [HxL HxR]
  · isplitl [HxL]; · iexact HxL
    iexact HxR
  ihave Hix := ((pointsTo_share (ℓ := (th d i).loc cc1_scratch0) (I := Finset.univ) (f := ixOf (a.ix d) (wid i)) (PosShare.mem_left_op_right fullShare)).2) $$ [HiL HiR]
  · isplitl [HiL]; · iexact HiL
    iexact HiR
  have hdone : ∀ y ∈ oTile (wid i), f y = outVal (a.ix d) (a.tab d) y := fun y hy => hf y (mem_oTile.mp hy) (y 1).isLt
  ihave Ho' := (Entails.of_eq (pointsTo_congr (ℓ := oLoc d) (I := oTile (wid i)) (q := fullShare) hdone)) $$ Ho
  isplitl [Hi Hx Ho']
  · isplitl [Hi Hx]; · isplitl [Hi] <;> iassumption
    iexact Ho'
  isplitl [Hix Hb1 Hb2 HRB]
  · isplitl [Hix]; · iexists _; iexact Hix
    isplitl [Hb1]; · iexists _; iexact Hb1
    isplitl [Hb2]; · iexists _; iexact Hb2
    iexact HRB
  isplitr [HO]
  · isplitl [Hs]; · iexact Hs
    isplitl [Hg0]; · iexact Hg0
    isplitl [Hg1]; · iexact Hg1
    isplitl [Hws] <;> iassumption
  iexact HO

end Cert.Proof.Tile
-- ==== Proof.Region.lean ====
/-
  The TensorCore kernel that computes the table: its body run once over the whole arrays, and its region over
  the thread state "every unscoped buffer at a valuation", left with the table in its result.
-/
module

public import proofs.«01_k».proof.Proof.Setup
public import Idealize.ShloMosaic.Lib.Pipeline.RegionsLoop
public import Idealize.ShloMosaic.Lib.Pipeline.ValueKit

@[expose] public section

noncomputable section

namespace Cert.Proof.Tile

open Cert.KernelIdeal Cert.KernelIdeal.Gen
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-! ## The body -/

/-- A TensorCore memref's buffer on device `c`, and it held whole. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- From the five operands and the result held whole, the body runs to its return and leaves the table in the
    result. -/
noncomputable def tableRun (c : Dev nD) (f0 : Bf (F := F) c (stage0_0 0)) (f1 : Bf (F := F) c (stage0_1 0)) (f2 : Bf (F := F) c (stage0_2 0))
    (f3 : Bf (F := F) c (stage0_3 0)) (f4 : Bf (F := F) c (stage0_4 0)) :
    { W : Bf (F := F) c (stage0_5 0) // ∀ (f5 : Bf (F := F) c (stage0_5 0)) (E : Set ℕ) (Q : PUnit → sProp 𝕄),
      iprop(pt c (stage0_0 0) f0 ∗ pt c (stage0_1 0) f1 ∗ pt c (stage0_2 0) f2 ∗ pt c (stage0_3 0) f3 ∗ pt c (stage0_4 0) f4 ∗ pt c (stage0_5 0) f5
        ∗ (iprop(pt c (stage0_0 0) f0 ∗ pt c (stage0_1 0) f1 ∗ pt c (stage0_2 0) f2 ∗ pt c (stage0_3 0) f3 ∗ pt c (stage0_4 0) f4 ∗ pt c (stage0_5 0) W) -∗ Q ⟨⟩))
        ⊢ wp frame (wpE (defs₀ (F := F)) 𝒱₀ c none) E
            (cc0__table_body (stage0_0 0) (hstage0_0 0) (stage0_1 0) (hstage0_1 0) (stage0_2 0) (hstage0_2 0) (stage0_3 0) (hstage0_3 0) (stage0_4 0) (hstage0_4 0) (stage0_5 0) (hstage0_5 0)) Q } := by
  refine ⟨?_, fun f5 E Q => ?run⟩
  case run =>
    rw [cc0__table_body_eq_skeleton]; unfold cc0__table_body_skel
    iintro ⟨H0, H1, H2, H3, H4, H5, Hk⟩
    sl_exec!
    sl_step
    iapply Hk
    isplitl [H0]; · iexact H0
    isplitl [H1]; · iexact H1
    isplitl [H2]; · iexact H2
    isplitl [H3]; · iexact H3
    isplitl [H4]; · iexact H4
    iexact H5

theorem tableRun_val (c : Dev nD) (f0 : Bf (F := F) c (stage0_0 0)) (f1 : Bf (F := F) c (stage0_1 0)) (f2 : Bf (F := F) c (stage0_2 0))
    (f3 : Bf (F := F) c (stage0_3 0)) (f4 : Bf (F := F) c (stage0_4 0)) :
    (tableRun c f0 f1 f2 f3 f4).1 = k0_pay1 f0 f1 f2 f3 f4 := by
  have h0 : (![0, 0] : Fin 2 → ℕ) = fun _ => 0 := by funext a; fin_cases a <;> rfl
  have e0 := Memref.readAt_unit_zero (Elt F) cc0_stg0_0 h0 inb_S123x1000_S123x1000_0_0 f0
  have e1 := Memref.readAt_unit_zero (Elt F) cc0_stg1_0 h0 inb_S1000x1000_S1000x1000_0_0 f1
  have e2 := Memref.readAt_unit_zero (Elt F) cc0_stg2_0 h0 inb_S1x1000_S1x1000_0_0 f2
  have e3 := Memref.readAt_unit_zero (Elt F) cc0_stg3_0 h0 inb_S1000x123_S1000x123_0_0 f3
  have e4 := Memref.readAt_unit_zero (Elt F) cc0_stg4_0 h0 inb_S1x123_S1x123_0_0 f4
  refine (Memref.write_access_unit_zero_univ (Elt F) cc0_stg5_0 h0 inb_S123x123_S123x123_0_0 _ _).trans ?_
  exact congr (congr (congr (congr (congrArg k0_pay1 e0) e1) e2) e3) e4

/-! ## The proof data, at an entry valuation -/

variable (V : (c : Dev nD) → (b : Ref sig .tc) → Buf (Elt F) ((c : Thread nD τ).loc b))

/-- What the table's buffer holds after the kernel, from a valuation of its operands. -/
def tableOf (c : Dev nD) : S123x123.Idx → Elt F .f32 :=
  k0_pay1 (V c main_arg1) (V c main_arg2) (V c main_v0) (V c main_arg4) (V c main_v1)

/-- The invariant between the region's ends: the scoped buffers the pipeline does not stage. -/
abbrev Φc (c : Dev nD) : sProp 𝕄 := Pipeline.scopedRest (Ix := HIx 1) (Name := ℕ) (U := UU) (Lvl := ℕ) (Val := Elt F) spec0 c

/-- An operand's block as its fetch stages it. -/
abbrev stg0 (c : Dev nD) : (cfg0.win 0).block.Idx → Elt F (cfg0.win 0).elt := ((cfg0.win 0).blk t0_0).view.read (Elt F) (V c main_arg1)
abbrev stg1 (c : Dev nD) : (cfg0.win 1).block.Idx → Elt F (cfg0.win 1).elt := ((cfg0.win 1).blk t0_0).view.read (Elt F) (V c main_arg2)
abbrev stg2 (c : Dev nD) : (cfg0.win 2).block.Idx → Elt F (cfg0.win 2).elt := ((cfg0.win 2).blk t0_0).view.read (Elt F) (V c main_v0)
abbrev stg3 (c : Dev nD) : (cfg0.win 3).block.Idx → Elt F (cfg0.win 3).elt := ((cfg0.win 3).blk t0_0).view.read (Elt F) (V c main_arg4)
abbrev stg4 (c : Dev nD) : (cfg0.win 4).block.Idx → Elt F (cfg0.win 4).elt := ((cfg0.win 4).blk t0_0).view.read (Elt F) (V c main_v1)

/-- The body's run at the staged blocks. -/
abbrev run0 (c : Dev nD) := tableRun (F := F) c (stg0 V c) (stg1 V c) (stg2 V c) (stg3 V c) (stg4 V c)

/-- The pairs the TensorCore may have waited on before the SparseCore call: those at the bottom level. -/
def lowPairs (c : Dev nD) : Set (SemLoc sig × HIx 1) := {p | (K (F := F)).lev ((SparseCore.T c : Thread nD τ), p.1) p.2 ≤ 0}

/-- The region's proof data: the arrays at the valuation; after the body the operands as fetched and the result at the run's
    value; the TensorCore owing throughout what it owes the SparseCores. -/
def dat (c : Dev nD) : Dat τ (Elt F) (HIx 1) ℕ UU ℕ cfg0 c where
  A w := V c (Pipeline.arrRef spec0 w)
  after w _ := match w with
    | ⟨0, _⟩ => stg0 V c
    | ⟨1, _⟩ => stg1 V c
    | ⟨2, _⟩ => stg2 V c
    | ⟨3, _⟩ => stg3 V c
    | ⟨4, _⟩ => stg4 V c
    | ⟨5, _⟩ => (run0 V c).1
  Φ _ := Φc c
  q _ := fullShare
  owed _ := (K (F := F)).Otc c 0
  recorded _ := lowPairs (F := F) c

def adm : (p : Fin 1) → (pcfgs (F := F) p).Adm := fun p => (cfgs p).toPCfg_adm

def pdats : (p : Fin 1) → (c : Dev nD) → Dat τ (Elt F) (HIx 1) ℕ UU ℕ (Pipeline.pin (pcfgs (F := F)) adm p) c
  | ⟨0, _⟩ => fun c => dat V c

/-- An operand's buffer holds the array's block when the body runs. -/
theorem before0 (c : Dev nD) (d) : (dat V c).before 0 t0_0 d = stg0 V c := by unfold Dat.before; rw [if_pos (by decide)]; rfl
theorem before1 (c : Dev nD) (d) : (dat V c).before 1 t0_0 d = stg1 V c := by unfold Dat.before; rw [if_pos (by decide)]; rfl
theorem before2 (c : Dev nD) (d) : (dat V c).before 2 t0_0 d = stg2 V c := by unfold Dat.before; rw [if_pos (by decide)]; rfl
theorem before3 (c : Dev nD) (d) : (dat V c).before 3 t0_0 d = stg3 V c := by unfold Dat.before; rw [if_pos (by decide)]; rfl
theorem before4 (c : Dev nD) (d) : (dat V c).before 4 t0_0 d = stg4 V c := by unfold Dat.before; rw [if_pos (by decide)]; rfl

/-- The library's body obligation: the six staging buffers taken out, the run applied, its post put back. -/
theorem body_obligation (c : Dev nD) : BodyObligation (dat V c) (defs₀ (F := F)) 𝒱₀ none Set.univ := fun t => by
  obtain rfl := fin_N0 t
  rw [bigSep_W0, bigSep_W0]
  simp only [owns_whole_eq]
  rw [show (dat V c).Φ t0_0.castSucc = Φc c from rfl, show (dat V c).Φ t0_0.succ = Φc c from rfl,
    show (dat V c).owesAt none t0_0.succ = (dat V c).owesAt none t0_0.castSucc from rfl]
  iintro ⟨HΦ, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, -, H5⟩⟩
  rw [before0] at hf0
  rw [before1] at hf1
  rw [before2] at hf2
  rw [before3] at hf3
  rw [before4] at hf4
  subst hf0 hf1 hf2 hf3 hf4
  iapply ((run0 V c).2 f5 Set.univ _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Howes]; · iexact Howes
  isplitl [H0]; · iexists _; isplitr; swap; (· iexact H0); ipureintro; dsimp only [dat]
  isplitl [H1]; · iexists _; isplitr; swap; (· iexact H1); ipureintro; dsimp only [dat]
  isplitl [H2]; · iexists _; isplitr; swap; (· iexact H2); ipureintro; dsimp only [dat]
  isplitl [H3]; · iexists _; isplitr; swap; (· iexact H3); ipureintro; dsimp only [dat]
  isplitl [H4]; · iexists _; isplitr; swap; (· iexact H4); ipureintro; dsimp only [dat]
  iexists _; isplitr; swap; (· iexact H5); ipureintro; dsimp only [dat]

/-- The whole-array blocks are the arrays, so the run's value is the table of the valuation. -/
theorem run0_val (c : Dev nD) : (run0 V c).1 = tableOf V c := by
  rw [tableRun_val]
  have h0 (r : Ref sig .tc) : (fun a => (0 : ℕ) * r.ty.shape.size a) = fun _ => 0 := funext fun a => Nat.zero_mul _
  unfold tableOf
  exact congr (congr (congr (congr (congrArg k0_pay1
    (Memref.read_access_unit_zero (Elt F) main_arg1 (h0 _) _ _)) (Memref.read_access_unit_zero (Elt F) main_arg2 (h0 _) _ _))
    (Memref.read_access_unit_zero (Elt F) main_v0 (h0 _) _ _)) (Memref.read_access_unit_zero (Elt F) main_arg4 (h0 _) _ _))
    (Memref.read_access_unit_zero (Elt F) main_v1 (h0 _) _ _)

/-- The result's array after the region is the table. -/
theorem arrAt_table (c : Dev nD) : (dat V c).arrAt 5 cfg0.N = tableOf V c := by
  refine (dat V c).arrAt_eq_of_after_last 5 t0_0 (by decide +kernel) _ fun j => ?_
  rw [← run0_val V c]; rfl

/-! ## The region over the thread state -/

/-- The TensorCore's tallies before the SparseCore call, its recorded waits at the bottom level. -/
def tcOwes (c : Dev nD) : sProp 𝕄 :=
  iprop(∃ W, ⌜(K (F := F)).WBelow (SparseCore.T c) W 0⌝ ∗ owes (SparseCore.T c) ((K (F := F)).Otc c 0) W)

variable (Vp : (c : Dev nD) → (b : Ref sig .tc) → Buf (Elt F) ((c : Thread nD τ).loc b))

theorem cut (c : Dev nD) (g : GSem nD τ sig) (i : HIx 1) (h : 0 < (K (F := F)).Otc c 0 g i) : i ∈ (K (F := F)).L g ∧ 0 < (K (F := F)).lev g i :=
  ⟨Finset.mem_univ _, lt_of_lt_of_le (Nat.succ_pos _) (SparseCore.Cfg.lev_of_Otc_pos h)⟩

set_option backward.isDefEq.respectTransparency.types false in
/-- The region, entered with the unscoped buffers at `V` and left with them at any valuation `Vp` that has the table in the
    result's buffer and agrees with `V` off it. -/
def reg (hVp_out : ∀ c, Vp c main_v2 = tableOf V c) (hVp_ne : ∀ c (b : Ref sig .tc), b ≠ main_v2 → Vp c b = V c b) :
    Pipeline.RegionSeg (pcfgs (F := F)) adm (pdats V) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation V c).loose
  hwaits c := Pipeline.cellsWaits_of_cut _ (pdats V) none 0 c 0 ((K (F := F)).Otc c 0) (fun _ => rfl) (fun _ _ => Finset.mem_univ _)
    (fun _ _ => Nat.le_of_eq (SparseCore.Cfg.lev_none _ _)) (cut c)
  pre c := iprop(unscopedBufs c (V c) ∗ tcOwes (F := F) c)
  post c := iprop(unscopedBufs c (Vp c) ∗ tcOwes (F := F) c)
  X _ := BI.emp
  Y _ := BI.emp
  Z c := Pipeline.unscopedRest (Ix := HIx 1) (Name := ℕ) (U := UU) (Lvl := ℕ) spec0 c (V c)
  hentry c := by
    rw [Pipeline.ownSems0_none]
    have hsplit := Pipeline.arrays_of_unscopedBufs (p := 0) (pcfgs (F := F)) adm (pdats V) launch0.win launch0.arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin tcOwes
      icases HO with ⟨%W, %hW, HO⟩; iexists W; isplitr; · ipureintro; exact fun p hp => Or.inl (hW p hp)
      iexact HO
    isplitr; · iempintro
    iexact Hrest
  hin c := by
    rw [show (pdats V 0 c).Φ 0 = Φc c from rfl]
    iintro ⟨-, -, Hr⟩; iexact Hr
  hout c := by
    rw [Pipeline.ownSems0_none, show (pdats V 0 c).Φ (Fin.last _) = Φc c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch0.win launch0.arr_whole c
      (pdats V) ((pdats V 0 c).share_full fun _ => rfl) (V c) (Vp c) ((pdats V 0 c).arrAt · cfg0.N)
      (fun w => by
        fin_cases w
        · exact ((pdats V 0 c).arrAt_in 0 rfl _).trans (hVp_ne c main_arg1 (by decide)).symm
        · exact ((pdats V 0 c).arrAt_in 1 rfl _).trans (hVp_ne c main_arg2 (by decide)).symm
        · exact ((pdats V 0 c).arrAt_in 2 rfl _).trans (hVp_ne c main_v0 (by decide)).symm
        · exact ((pdats V 0 c).arrAt_in 3 rfl _).trans (hVp_ne c main_arg4 (by decide)).symm
        · exact ((pdats V 0 c).arrAt_in 4 rfl _).trans (hVp_ne c main_v1 (by decide)).symm
        · exact (arrAt_table V c).trans (hVp_out c).symm)
      (fun b hb => hVp_ne c b fun h => hb (h ▸ Finset.mem_image.mpr ⟨5, Finset.mem_univ _, rfl⟩))
    iintro ⟨Ha, HO, -, Hrest⟩
    imodintro
    isplitl [Ha Hrest]
    · iapply hjoin; isplitl [Ha] <;> iassumption
    unfold Pipeline.Dat.owesAt Pipeline.owesWithin tcOwes
    icases HO with ⟨%W, %hW, HO⟩; iexists W; isplitr
    · ipureintro; intro p hp
      rcases hW hp with h | ⟨w, s, h⟩
      · exact h
      · rw [h]; exact Nat.le_of_eq (SparseCore.Cfg.lev_none _ _)
    iexact HO

theorem reg_pre (h : ∀ c, Vp c main_v2 = tableOf V c) (h' : ∀ c (b : Ref sig .tc), b ≠ main_v2 → Vp c b = V c b) (c : Dev nD) :
    (reg V Vp h h').pre c = iprop(unscopedBufs c (V c) ∗ tcOwes (F := F) c) := rfl
theorem reg_post (h : ∀ c, Vp c main_v2 = tableOf V c) (h' : ∀ c (b : Ref sig .tc), b ≠ main_v2 → Vp c b = V c b) (c : Dev nD) :
    (reg V Vp h h').post c = iprop(unscopedBufs c (Vp c) ∗ tcOwes (F := F) c) := rfl

/-- The call of the table's kernel is the pipeline's own call, lifted to the SparseCore program's signature. -/
theorem table_call : (Prog.lift (.customCall (SparseCore.inner (Pipeline.entry 0)) ()) : Prog (TpuEff nD τ sig (Elt F) (SparseCore.Sig (ΛP (F := F)) 1) .tc) PUnit)
    = SparseCore.liftProg (Prog.lift (.customCall (Pipeline.entry 0) ())) := rfl

/-- The region's call in the SparseCore program: from the boundary, the unscoped buffers at `V` and the TensorCore's tallies to the
    same at `Vp`. -/
theorem wp_table (hVp_out : ∀ c, Vp c main_v2 = tableOf V c) (hVp_ne : ∀ c (b : Ref sig .tc), b ≠ main_v2 → Vp c b = V c b)
    (c : Dev nD) (Q : PUnit → sProp 𝕄) :
    iprop((iprop(boundary (SparseCore.T c) ∗ unscopedBufs c (Vp c) ∗ tcOwes (F := F) c) -∗ Q ⟨⟩)
        ∗ boundary (SparseCore.T c) ∗ (unscopedBufs c (V c) ∗ tcOwes (F := F) c) ∗ levAts (K (F := F)).L (K (F := F)).lev
        ∗ Pipeline.cellsGhost (Pipeline.pin (pcfgs (F := F)) adm) EP 0 c ∗ Pipeline.toksInit (Pipeline.pin (pcfgs (F := F)) adm) EP 0 c)
      ⊢ wp frame (wpE ((K (F := F)).defs (D (F := F))) 𝒱 (SparseCore.T c) none) Set.univ
          (Prog.lift (.customCall (SparseCore.inner (Pipeline.entry 0)) ())) Q := by
  rw [table_call]
  iintro ⟨Hk, Hb, Hpre, Hl, Hg, Ht⟩
  iapply (SparseCore.Cfg.wp_liftProg (K := K (F := F)) (D (F := F)) 𝒱 (SparseCore.T c) Set.univ none (Prog.lift (.customCall (Pipeline.entry 0) ())) Q)
  iapply (Pipeline.RegionSeg.wp (pcfgs (F := F)) adm (pdats V) none cellOf_inj EP defs₀ 𝒱₀ (K (F := F)).L (K (F := F)).lev
    (reg V Vp hVp_out hVp_ne) c none (fun u hu => nomatch hu) (fun x => .ret x) Q)
  isplitl [Hk]
  · iintro ⟨Hb, Hpost⟩
    rw [wp_ret]; imodintro
    iapply Hk
    isplitl [Hb]; · iexact Hb
    iapply (Entails.of_eq (reg_post V Vp hVp_out hVp_ne c)) $$ Hpost
  isplitl [Hb]; · iexact Hb
  isplitl [Hpre]; · iapply (Entails.of_eq (reg_pre V Vp hVp_out hVp_ne c).symm) $$ Hpre
  isplitl [Hl]; · iexact Hl
  isplitl [Hg]; · iexact Hg
  iexact Ht

end Cert.Proof.Tile
-- ==== Proof.Launch.lean ====
/-
  The whole program's run: the tiles' obligation, the ghost state at the launch, @main on the TensorCore, and what
  the memory holds at the end.
-/
module

public import proofs.«01_k».proof.Proof.Body
public import proofs.«01_k».proof.Proof.Region

@[expose] public section

noncomputable section

namespace Cert.Proof.Tile

open Cert.KernelIdeal Cert.KernelIdeal.Gen
open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The tiles' obligation -/

def coordsV (c : Fin (grid1.bound 0)) (s : Fin (grid1.bound 1)) : grid1.Coords :=
  fun | 0 => c | 1 => s | ⟨_ + 2, h⟩ => absurd h (Nat.not_lt.2 (Nat.le_add_left _ _))

/-- A vector subcore's body is its tile's program. -/
theorem defs₀_vector (c : Fin τ.nSC) (s : Fin τ.nSub) :
    defs₀ (F := F) (.scVector c s) 1 () = SparseCore.onTile hcore1 hsub1 (fun c s => tileProg (coordsV c s)) ⟨⟩ c s := rfl

/-- The waits a tile's run records are among those the launch allows it. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile runs to its end, handing back its shares and its block holding the gathered rows. -/
theorem tileObl (a : Args F) (hin : ∀ d, InRange (a.ix d)) : (K (F := F)).TileObl (D (F := F)) 𝒱 (P a) v₀ 0 := by
  intro d c i O W hO _ _
  simp only [show (P a).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) a (hin d) O W hO).trans (wp_mono frame _ _ fun _ => obl_post)

end Cert.Proof.Tile
-- ==== Proof.Main.lean ====
/-
  @main on the TensorCore: what each buffer holds after each of its steps, the SparseCore call's part split between the
  tiles and joined again, and the run of the whole of it.
-/
module

public import proofs.«01_k».proof.Proof.Launch
public import Idealize.ShloMosaic.Lib.Pipeline.Frame

@[expose] public section

noncomputable section

namespace Cert.Proof.Tile

open Cert.KernelIdeal Cert.KernelIdeal.Gen
open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The steps, and what the buffers hold after each -/

abbrev Vals (F : FTy → Type) : Type := Valuation τ sig (Elt F)

/-- The steps before the table's kernel: the biases as rows; -/
def ops1 : List (HloOp τ sig (Elt F)) :=
  [StableHlo.reshape main_arg3 main_v0 (rfl : (.f32 : EltTy) = .f32) shapeCasts_S1000_S1x1000,
   StableHlo.reshape main_arg5 main_v1 (rfl : (.f32 : EltTy) = .f32) shapeCasts_S123_S1x123]

/-- between the table's kernel and the gather: the table padded, the indices by tile; -/
def ops2 : List (HloOp τ sig (Elt F)) :=
  [StableHlo.nullary main_c (constantI S_ 32 0#32),
   StableHlo.TRef.unary (.of main_c : StableHlo.TRef sig ⟨S_, .i32⟩) main_call0.v0 (sitofp .f32),
   StableHlo.TRef.binary (.of main_v2 : StableHlo.TRef sig ⟨S123x123, .f32⟩) main_call0.v0 main_call0.v1 (fun x v => pad S128x128 ![0, 0] ![5, 5] ![0, 0] x v pads_S123x123_S128x128_050_050 h_S_),
   StableHlo.reshape main_arg0 main_v4 (rfl : (.i32 : EltTy) = .i32) shapeCasts_S4096x20_S32x20x128]

/-- after the gather: the padding's columns dropped, the result's own shape. -/
def ops3 : List (HloOp τ sig (Elt F)) :=
  [StableHlo.unary main_v5 main_v6 ((extractStridedSlice S32x20x128x123 ![0, 0, 0, 0] · slices_S32x20x128x128_S32x20x128x123_0_0_0_0) : (⟨S32x20x128x128, .f32⟩ : BufTy).Contents (Elt F) → (⟨S32x20x128x123, .f32⟩ : BufTy).Contents (Elt F)),
   StableHlo.reshape main_v6 main_v7 (rfl : (.f32 : EltTy) = .f32) shapeCasts_S32x20x128x123_S4096x20x123]

/-- @main is the steps, the table's kernel, more steps, the gather, the last steps. -/
theorem main_eq (d : Dev nD) : main (F := F) d
    = StableHlo.seq ops1 >>= fun _ => Prog.lift (.customCall (SparseCore.inner (Pipeline.entry 0)) ()) >>= fun _ =>
      StableHlo.seq ops2 >>= fun _ => (K (F := F)).run d 0 >>= fun _ => StableHlo.seq ops3 >>= fun _ => pure ⟨⟩ := by
  unfold main fn_pad.body ops1 ops2 ops3
  simp only [StableHlo.seq, bind_assoc, pure_bind]

theorem ops1_bufs : ∀ op ∈ ops1 (F := F), op.bufs ⊆ Pipeline.ucRefs τ sig := fun op h => by
  refine Pipeline.sub_ucRefs op ?_
  revert op; unfold ops1
  simp only [List.forall_mem_cons, List.not_mem_nil, IsEmpty.forall_iff, implies_true, and_true]
  exact ⟨StableHlo.reshape_bufs_sub .., StableHlo.reshape_bufs_sub ..⟩

theorem ops2_bufs : ∀ op ∈ ops2 (F := F), op.bufs ⊆ Pipeline.ucRefs τ sig := fun op h => by
  refine Pipeline.sub_ucRefs op ?_
  revert op; unfold ops2
  simp only [List.forall_mem_cons, List.not_mem_nil, IsEmpty.forall_iff, implies_true, and_true]
  exact ⟨StableHlo.nullary_bufs_sub .., StableHlo.unary_bufs_sub .., StableHlo.binary_bufs_sub .., StableHlo.reshape_bufs_sub ..⟩

theorem ops3_bufs : ∀ op ∈ ops3 (F := F), op.bufs ⊆ Pipeline.ucRefs τ sig := fun op h => by
  refine Pipeline.sub_ucRefs op ?_
  revert op; unfold ops3
  simp only [List.forall_mem_cons, List.not_mem_nil, IsEmpty.forall_iff, implies_true, and_true]
  exact ⟨StableHlo.unary_bufs_sub .., StableHlo.reshape_bufs_sub ..⟩

theorem ops1_fresh : ∀ op ∈ ops1 (F := F), op.fresh = ∅ := List.forall_iff_forall_mem.mp (StableHlo.forall_fresh_of_map rfl)
theorem ops2_fresh : ∀ op ∈ ops2 (F := F), op.fresh = ∅ := List.forall_iff_forall_mem.mp (StableHlo.forall_fresh_of_map rfl)
theorem ops3_fresh : ∀ op ∈ ops3 (F := F), op.fresh = ∅ := List.forall_iff_forall_mem.mp (StableHlo.forall_fresh_of_map rfl)

variable (m : (ℓ : Loc nD τ sig) → Buf (Elt F) ℓ)

abbrev ref (b : Ref sig .tc) : DevRef τ sig := Proc.devRef .tc b

def V0 (d : Dev nD) : Vals F := fun b => m (d, b)
def V1 (d : Dev nD) : Vals F := StableHlo.after ops1 (V0 m d)
/-- With the table in its buffer. -/
def V2 (d : Dev nD) : Vals F := Function.update (V1 m d) (ref main_v2) (tableOf (fun c b => V1 m c (ref b)) d)
def V3 (d : Dev nD) : Vals F := StableHlo.after ops2 (V2 m d)
/-- With the gathered rows in theirs. -/
def V4 (d : Dev nD) : Vals F := Function.update (V3 m d) (ref main_v5) (outVal (F := F) (V3 m d (ref main_v4)) (V3 m d (ref main_v3)))
def V5 (d : Dev nD) : Vals F := StableHlo.after ops3 (V4 m d)

/-- The gather's operands. -/
def args : Args F where
  ix d := V3 m d (ref main_v4)
  tab d := V3 m d (ref main_v3)
  o0 d := V3 m d (ref main_v5)

/-! ## The call's part, split between the tiles -/

theorem tileOf_bij : Function.Bijective fun p : Fin 2 × Fin 16 => tileOf p.1 p.2 := by decide

theorem bigSep_all (Φ : Fin 32 → sProp 𝕄) :
    (bigSep Finset.univ fun c : Fin 2 => bigSep Finset.univ fun s : Fin 16 => Φ (tileOf c s)) = bigSep Finset.univ Φ := by
  rw [bigSep_univ_equiv (Equiv.ofBijective _ tileOf_bij) Φ, bigSep_univ_prod]; rfl

theorem oTile_disjoint : ∀ w ∈ (Finset.univ : Finset (Fin 32)), ∀ w' ∈ (Finset.univ : Finset (Fin 32)), w ≠ w' → Disjoint (oTile w) (oTile w') :=
  fun w _ w' _ h => Finset.disjoint_left.mpr fun y hy hy' => h ((mem_oTile.mp hy).symm.trans (mem_oTile.mp hy'))
theorem oTile_cover : (Finset.univ : Finset (Fin 32)).biUnion oTile = Finset.univ :=
  Finset.eq_univ_of_forall fun y => Finset.mem_biUnion.mpr ⟨y 0, Finset.mem_univ _, mem_oTile.mpr rfl⟩

theorem oPts_tiles (d : Dev nD) (f : Buf (Elt F) (oLoc d)) :
    (oLoc d ↦{fullShare} f : sProp 𝕄) = bigSep Finset.univ fun w : Fin 32 => oLoc d ↦[oTile w]{fullShare} f := by
  rw [← pointsTo_biUnion Finset.univ (ℓ := oLoc d) oTile oTile_disjoint, oTile_cover]; try rfl

theorem shares (ℓ : Loc nD τ sig) (f : Buf (Elt F) ℓ) :
    (ℓ ↦{fullShare} f : sProp 𝕄) = bigSep Finset.univ fun w : Fin 32 => ℓ ↦{share w} f :=
  pointsTo_piecesOf Finset.univ f (by decide) fullShare

/-- What the call is handed: the operands and the result's buffer, whole; -/
theorem st0_eq (a : Args F) (d : Dev nD) : (bigSep Finset.univ fun c : Fin ((K (F := F)).nCore 0) => (P a).st 0 d c)
    = iprop(((iLoc d ↦{fullShare} a.ix d) ∗ (xLoc d ↦{fullShare} a.tab d)) ∗ oLoc d ↦{fullShare} a.o0 d) := by
  rw [shares, shares, oPts_tiles, ← bigSep_sep', ← bigSep_sep', ← bigSep_all]
  exact bigSep_congr fun _ _ => rfl
/-- what it hands back: the same, the gathered rows in the result's buffer. -/
theorem dn0_eq (a : Args F) (d : Dev nD) : (bigSep Finset.univ fun c : Fin ((K (F := F)).nCore 0) => (P a).dn 0 d c)
    = iprop(((iLoc d ↦{fullShare} a.ix d) ∗ (xLoc d ↦{fullShare} a.tab d)) ∗ oLoc d ↦{fullShare} outVal (a.ix d) (a.tab d)) := by
  rw [shares, shares, oPts_tiles, ← bigSep_sep', ← bigSep_sep', ← bigSep_all]
  exact bigSep_congr fun _ _ => rfl

/-- The buffers the call takes. -/
def callRefs : Finset (DevRef τ sig) := {ref main_v4, ref main_v3, ref main_v5}

theorem callRefs_sub : callRefs ⊆ Pipeline.ucRefs τ sig := by decide

theorem held_call (d : Dev nD) (W : Vals F) : (StableHlo.held (T d) callRefs W : sProp 𝕄)
    = iprop(((iLoc d ↦{fullShare} W (ref main_v4)) ∗ (xLoc d ↦{fullShare} W (ref main_v3))) ∗ oLoc d ↦{fullShare} W (ref main_v5)) := by
  unfold StableHlo.held callRefs
  rw [SparseCore.bigSep_insert' (by decide), SparseCore.bigSep_insert' (by decide), bigSep_singleton]
  exact (equiv_iff.mp ⟨BI.sep_assoc, BI.sep_assoc'⟩).symm

/-! ## The ghost state at the launch -/

/-- The launch's ghost state: the calls' rounds, the table's kernel's staging rounds, no counters. -/
def u₀ : UU := ((initOf (K (F := F)).hsCells (K (F := F)).hsToks,
  initOf (Pipeline.cells (Pipeline.pin (pcfgs (F := F)) adm) cellOf_inj) (Pipeline.launchToks (Pipeline.pin (pcfgs (F := F)) adm) cellOf_inj)), 1)

/-- What the table's kernel's staging takes of it on device `d`. -/
abbrev G (d : Dev nD) : sProp 𝕄 :=
  iprop((bigSep Finset.univ fun p : Fin 1 => Pipeline.cellsGhost (Pipeline.pin (pcfgs (F := F)) adm) EP p d)
    ∗ bigSep Finset.univ fun p : Fin 1 => Pipeline.toksInit (Pipeline.pin (pcfgs (F := F)) adm) EP p d)

theorem hu₀ (a : Args F) : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P a).x q thr) := by
  unfold u₀
  iintro Hu
  ihave H := (ownU_pair (initOf (K (F := F)).hsCells (K (F := F)).hsToks,
    initOf (Pipeline.cells (Pipeline.pin (pcfgs (F := F)) adm) cellOf_inj) (Pipeline.launchToks (Pipeline.pin (pcfgs (F := F)) adm) cellOf_inj)) (1 : Counters)) $$ Hu
  icases H with ⟨HH, -⟩
  ihave H := (own_pair_emb embL (initOf (K (F := F)).hsCells (K (F := F)).hsToks)
    (initOf (Pipeline.cells (Pipeline.pin (pcfgs (F := F)) adm) cellOf_inj) (Pipeline.launchToks (Pipeline.pin (pcfgs (F := F)) adm) cellOf_inj))) $$ HH
  icases H with ⟨HH, HP⟩
  ihave HP := (show BI.own (((Emb.inr : Emb UP (UH × UP)).trans embL) (initOf (Pipeline.cells (Pipeline.pin (pcfgs (F := F)) adm) cellOf_inj) (Pipeline.launchToks (Pipeline.pin (pcfgs (F := F)) adm) cellOf_inj)))
      ⊢ (BI.own (EP (initOf (Pipeline.cells (Pipeline.pin (pcfgs (F := F)) adm) cellOf_inj) (Pipeline.launchToks (Pipeline.pin (pcfgs (F := F)) adm) cellOf_inj))) : sProp 𝕄) from .rfl) $$ HP
  imod (Pipeline.fund_ghost (Pipeline.pin (pcfgs (F := F)) adm) EP cellOf_inj) $$ HP with ⟨Hg, Ht⟩
  imodintro
  isplitl [HH]; · iexact HH
  isplitl [Hg Ht]
  · rw [bigSep_sep']
    isplitl [Hg]; · iexact Hg
    iexact Ht
  rw [show (bigSep Finset.univ fun thr : Thread nD τ => bigSep Finset.univ fun q : Fin 1 => (P (F := F) a).x q thr) = bigSep Finset.univ fun _ => iprop(emp) from
    bigSep_congr fun _ _ => bigSep_univ_of_subsingleton (0 : Fin 1),
    show (bigSep Finset.univ fun _ : Thread nD τ => iprop(emp)) = (iprop(emp) : sProp 𝕄) from bigSep_emp_const _]
  iempintro

/-! ## @main's run -/

variable (ρ : Dev nD → PrngReg)

/-- At the end every unscoped buffer holds what the last step left. -/
abbrev FIN (d : Dev nD) : sProp 𝕄 := StableHlo.held (T d) (Pipeline.ucRefs τ sig) (V5 m d)

theorem V2_out (d : Dev nD) : V2 m d (ref main_v2) = tableOf (fun c b => V1 m c (ref b)) d := Function.update_self ..
theorem V2_ne (d : Dev nD) (b : Ref sig .tc) (h : b ≠ main_v2) : V2 m d (ref b) = V1 m d (ref b) :=
  Function.update_of_ne (StableHlo.devRef_ne_of_ne h) ..

/-- Off the call's buffers the gather changes nothing. -/
theorem held_rest (d : Dev nD) : (StableHlo.held (T d) (Pipeline.ucRefs τ sig \ callRefs) (V4 m d) : sProp 𝕄)
    = StableHlo.held (T d) (Pipeline.ucRefs τ sig \ callRefs) (V3 m d) :=
  StableHlo.held_congr _ fun b hb => Function.update_of_ne (fun h => (Finset.mem_sdiff.mp hb).2 (by rw [h]; decide)) ..

theorem held_args (d : Dev nD) : (StableHlo.held (T d) callRefs (V3 m d) : sProp 𝕄)
    = iprop(((iLoc d ↦{fullShare} (args m).ix d) ∗ (xLoc d ↦{fullShare} (args m).tab d)) ∗ oLoc d ↦{fullShare} (args m).o0 d) := held_call d _

theorem held_out (d : Dev nD) : (StableHlo.held (T d) callRefs (V4 m d) : sProp 𝕄)
    = iprop(((iLoc d ↦{fullShare} (args m).ix d) ∗ (xLoc d ↦{fullShare} (args m).tab d)) ∗ oLoc d ↦{fullShare} outVal ((args m).ix d) ((args m).tab d)) := by
  rw [held_call, show V4 m d (ref main_v4) = V3 m d (ref main_v4) from Function.update_of_ne (by decide) ..,
    show V4 m d (ref main_v3) = V3 m d (ref main_v3) from Function.update_of_ne (by decide) ..,
    show V4 m d (ref main_v5) = outVal (F := F) (V3 m d (ref main_v4)) (V3 m d (ref main_v3)) from Function.update_self ..]
  rfl

/-- What is left of the program after the table's kernel, and after the gather. -/
def rest3 : Prog (TpuEff nD τ sig (Elt F) (SparseCore.Sig (ΛP (F := F)) 1) .tc) PUnit := StableHlo.seq ops3 >>= fun _ => pure ⟨⟩
def rest2 (d : Dev nD) : Prog (TpuEff nD τ sig (Elt F) (SparseCore.Sig (ΛP (F := F)) 1) .tc) PUnit :=
  StableHlo.seq ops2 >>= fun _ => (K (F := F)).run d 0 >>= fun _ => rest3

theorem main_eq' (d : Dev nD) : main (F := F) d
    = StableHlo.seq ops1 >>= fun _ => Prog.lift (.customCall (SparseCore.inner (Pipeline.entry 0)) ()) >>= fun _ => rest2 d := main_eq d

/-- The last steps. -/
theorem wp_rest3 (d : Dev nD) (Q : PUnit → sProp 𝕄) :
    iprop(boundary (T d) ∗ StableHlo.held (T d) (Pipeline.ucRefs τ sig) (V4 m d)
        ∗ (iprop(boundary (T d) ∗ FIN m d) -∗ Q ⟨⟩))
      ⊢ wp frame (wpE ((K (F := F)).defs (D (F := F))) 𝒱 (T d) none) Set.univ rest3 Q := by
  unfold rest3
  iintro ⟨Hb, Hh, Hk⟩
  iapply (StableHlo.wp_seq 𝒱 none Set.univ d (Pipeline.ucRefs τ sig) (fun _ => pure ⟨⟩) ops3 ops3_bufs ops3_fresh (V4 m d)) $$ [Hb Hh]
  · isplitl [Hb]; · iexact Hb
    iexact Hh
  iintro H
  rw [wp_pure]; imodintro
  iapply Hk; iexact H

/-- From the table's kernel to the end. -/
theorem wp_rest2 (κ : GSem nD τ sig → ℕ) (d : Dev nD) (Q : PUnit → sProp 𝕄) :
    iprop((K (F := F)).ctx EH (P (args m)) κ ∗ (K (F := F)).tcSt EH d 0 ∗ boundary (T d) ∗ StableHlo.held (T d) (Pipeline.ucRefs τ sig) (V2 m d)
        ∗ (iprop((K (F := F)).tcSt EH d 1 ∗ boundary (T d) ∗ FIN m d) -∗ Q ⟨⟩))
      ⊢ wp frame (wpE ((K (F := F)).defs (D (F := F))) 𝒱 (T d) none) Set.univ (rest2 d) Q := by
  unfold rest2
  iintro ⟨#Hctx, Hst, Hb, Hh, Hk⟩
  iapply (StableHlo.wp_seq 𝒱 none Set.univ d (Pipeline.ucRefs τ sig) (fun _ => (K (F := F)).run d 0 >>= fun _ => rest3) ops2 ops2_bufs ops2_fresh (V2 m d)) $$ [Hb Hh]
  · isplitl [Hb]; · iexact Hb
    iexact Hh
  iintro ⟨Hb, Hh⟩
  ihave Hh := (Entails.of_eq (show (StableHlo.held d.tc (Pipeline.ucRefs τ sig) (StableHlo.after ops2 (V2 m d)) : sProp 𝕄) = _ from
    StableHlo.held_sub_split (T d) callRefs_sub (V3 m d))) $$ Hh
  icases Hh with ⟨Hc, Hr⟩
  ihave Hc := (Entails.of_eq ((held_args m d).trans (st0_eq (args m) d).symm)) $$ Hc
  rw [wp_bind]
  iapply ((K (F := F)).wp_run (D (F := F)) 𝒱 (EH := EH) (P := P (args m)) κ d 0)
  isplitr; · iexact Hctx
  isplitl [Hst]; · iexact Hst
  isplitl [Hc]; · iexact Hc
  iintro ⟨Hst, Hdn⟩
  ihave Hc := (Entails.of_eq ((dn0_eq (args m) d).trans (held_out m d).symm)) $$ Hdn
  ihave Hr := (Entails.of_eq (held_rest m d).symm) $$ Hr
  iapply (wp_rest3 m d)
  isplitl [Hb]; · iexact Hb
  isplitl [Hc Hr]
  · iapply (Entails.of_eq (StableHlo.held_sub_split (T d) callRefs_sub (V4 m d)).symm)
    isplitl [Hc]; · iexact Hc
    iexact Hr
  iintro ⟨Hb, Hf⟩
  iapply Hk
  isplitl [Hst]; · iexact Hst
  isplitl [Hb]; · iexact Hb
  iexact Hf

/-- The table's kernel takes the tallies of the TensorCore's state and leaves the rest of it alone. -/
theorem tcSt_split (d : Dev nD) : ∃ R : sProp 𝕄, (K (F := F)).tcSt EH d 0 = iprop(tcOwes (F := F) d ∗ R) := by
  unfold SparseCore.Cfg.tcSt tcOwes
  exact ⟨_, rfl⟩

/-- The launch's buffers as the steps take them. -/
theorem held_launch (d : Dev nD) : (unscopedBufs d fun b => m ((SparseCore.T d).loc b) : sProp 𝕄) = StableHlo.held d.tc (Pipeline.ucRefs τ sig) (V0 m d) :=
  Pipeline.unscopedBufs_held d (fun b => m (d, b))

theorem held_table (d : Dev nD) : (StableHlo.held d.tc (Pipeline.ucRefs τ sig) (StableHlo.after ops1 (V0 m d)) : sProp 𝕄)
    = unscopedBufs d fun b => V1 m d (ref b) := (Pipeline.unscopedBufs_held d (V1 m d)).symm

theorem held_tabled (d : Dev nD) : (unscopedBufs d fun b => V2 m d (ref b) : sProp 𝕄)
    = StableHlo.held (SparseCore.T d) (Pipeline.ucRefs τ sig) (V2 m d) := Pipeline.unscopedBufs_held d (V2 m d)

set_option maxRecDepth 8192 in
/-- @main on device `d`'s TensorCore, to every buffer at what the last step leaves. -/
theorem hmain (κ : GSem nD τ sig → ℕ) (d : Dev nD) :
    iprop((K (F := F)).ctx EH (P (args m)) κ ∗ (K (F := F)).tcSt EH d 0 ∗ (K (F := F)).tcRes m ρ d ∗ G d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  obtain ⟨R, hR⟩ := tcSt_split (F := F) d
  rw [main_eq', hR]
  iintro ⟨#Hctx, ⟨HO, Hst⟩, ⟨Hb, Hu, Hts, -⟩, ⟨Hg, Ht⟩⟩
  ihave Hh := (Entails.of_eq (held_launch m d)) $$ Hu
  iapply (StableHlo.wp_seq 𝒱 none Set.univ d (Pipeline.ucRefs τ sig)
    (fun _ => Prog.lift (.customCall (SparseCore.inner (Pipeline.entry 0)) ()) >>= fun _ => rest2 d) ops1 ops1_bufs ops1_fresh (V0 m d)) $$ [Hb Hh]
  · isplitl [Hb]; · iexact Hb
    iexact Hh
  iintro ⟨Hb, Hh⟩
  ihave Hu := (Entails.of_eq (held_table m d)) $$ Hh
  ihave Hg := (show (bigSep Finset.univ fun p : Fin 1 => Pipeline.cellsGhost (Pipeline.pin (pcfgs (F := F)) adm) EP p d)
      ⊢ (Pipeline.cellsGhost (Pipeline.pin (pcfgs (F := F)) adm) EP 0 d : sProp 𝕄) from bigSep_elim (Finset.mem_univ 0)) $$ Hg
  ihave Ht := (show (bigSep Finset.univ fun p : Fin 1 => Pipeline.toksInit (Pipeline.pin (pcfgs (F := F)) adm) EP p d)
      ⊢ (Pipeline.toksInit (Pipeline.pin (pcfgs (F := F)) adm) EP 0 d : sProp 𝕄) from bigSep_elim (Finset.mem_univ 0)) $$ Ht
  ihave Hl := (SparseCore.Cfg.ctx_levAts κ) $$ Hctx
  rw [wp_bind]
  iapply (wp_table (fun c b => V1 m c (ref b)) (fun c b => V2 m c (ref b)) (V2_out m) (V2_ne m) d _)
  isplitl [Hts Hst]
  · iintro ⟨Hb, Hu, HO⟩
    ihave Hh := (Entails.of_eq (held_tabled m d)) $$ Hu
    iapply (wp_rest2 m κ d)
    isplitr; · iexact Hctx
    isplitl [HO Hst]
    · iapply (Entails.of_eq hR.symm)
      isplitl [HO]; · iexact HO
      iexact Hst
    isplitl [Hb]; · iexact Hb
    isplitl [Hh]; · iexact Hh
    iintro ⟨Hst, Hb, Hf⟩
    isplitl [Hst]; · iexact Hst
    isplitl [Hf]; · iexact Hf
    isplitl [Hb]; · iexact Hb
    iexact Hts
  isplitl [Hb]; · iexact Hb
  isplitl [Hu HO]
  · isplitl [Hu]; · iexact Hu
    iexact HO
  isplitl [Hl]; · iexact Hl
  isplitl [Hg]; · iexact Hg
  iexact Ht

/-! ## The program's run -/

/-- Every unscoped buffer of device `d` reads what the last step left. -/
def fq (d : Dev nD) (s' : Phys nD τ sig (Elt F)) : Prop := ∀ b ∈ Pipeline.ucRefs τ sig, s'.mem.mem (d, b) = V5 m d b

theorem hfin (d : Dev nD) (s' : Phys nD τ sig (Elt F)) : iprop(FIN m d ∗ SI s') ⊢ (⌜fq m d s'⌝ : sProp 𝕄) := by
  have one (b : DevRef τ sig) (hb : b ∈ Pipeline.ucRefs τ sig) : iprop(FIN m d ∗ SI s') ⊢ (⌜s'.mem.mem (d, b) = V5 m d b⌝ : sProp 𝕄) := by
    iintro ⟨Hf, HSI⟩
    ihave Hp := (show FIN m d ⊢ ((d, b) ↦{fullShare} V5 m d b : sProp 𝕄) from bigSep_elim hb) $$ Hf
    ihave H := (SI_pointsTo_agree (st := s') (ℓ := (d, b)) (I := Finset.univ) (q := fullShare) (f := V5 m d b)) $$ [HSI Hp]
    · isplitl [HSI] <;> iassumption
    icases H with %h
    ipureintro; exact funext fun i => h i (Finset.mem_univ i)
  exact ((Laws.forall_intro fun x : {b // b ∈ Pipeline.ucRefs τ sig} => one x.1 x.2).trans Laws.pure_forall.2).trans
    (Laws.pure_mono fun h b hb => h ⟨b, hb⟩)

/-- What the program leaves: every unscoped buffer at what the last step left, every semaphore zero. -/
def QC : PUnit × MemSt nD τ sig (Elt F) → Prop :=
  fun r => (∀ d : Dev nD, ∀ b ∈ Pipeline.ucRefs τ sig, r.2.mem (d, b) = V5 m d b) ∧ r.2.sem = fun _ => 0

theorem run_main [∀ e, Nonempty (Elt F e)] (hpre : ∀ d, InRange ((args m).ix d)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (args m)) (A := ∅) facts v₀
    (fun q hq => match q with | 0 => nomatch hq)
    (fun q _ => match q with | 0 => tileObl (args m) hpre)
    (fun q _ => match q with | 0 => SparseCore.Cfg.VecSplit.of_plain (vecSplit (args m)))
    m ρ main G (FIN m) (u₀ (F := F)) (sep_elim_left.trans (hu₀ (args m))) (hmain m ρ) (fq m) (hfin m) (QC m) (fun _ h hz => ⟨h, hz⟩)

end Cert.Proof.Tile
-- ==== Proof.Frames.lean ====
/-
  What the precondition says of the indices, what the program leaves in its arguments and in its result, and the frames.
-/
module

public import proofs.«01_k».proof.Defs
public import proofs.«01_k».proof.Proof.Main
public import proofs.«01_k».proof.Proof.Gen.Kernel
public import proofs.«01_k».proof.Proof.Gen.ReferenceIdeal.Run
public import proofs.«01_k».proof.Proof.Gen.Pre_in_range
public import Idealize.ShloMosaic.Lib.ReduceAll

@[expose] public section

noncomputable section

namespace Cert.Proof.Tile

open Cert.KernelIdeal Cert.KernelIdeal.Gen
open Idealize.ShloMosaic Idealize.ShloMosaic.ValueIdx
open Idealize.ShloMosaic.TcCoe
open Idealize.SL Idealize.SL.Sem

variable {F : FTy → Type} [FloatOps F]

/-! ## The precondition -/

/-- A word that is not negative and is below 123 as a signed word is its own value, below 123. -/
theorem toNat_lt_of_signed {v : BitVec 32} (h0 : IntOp.cmpi .sge v 0#32 = 1#1) (h1 : IntOp.cmpi .slt v 123#32 = 1#1) : v.toNat < 123 := by
  have e0 := IntOp.cmpi_sge.mp h0
  have e1 := IntOp.cmpi_slt.mp h1
  simp only [BitVec.toInt_eq_toNat_cond, BitVec.toNat_ofNat, Nat.reducePow, Nat.reduceMod] at e0 e1
  omega

/-- The precondition — every index at least 0, and every index below 123 — says of each index that its value is below 123. -/
theorem lt_of_pre (a0 : IVec S4096x20 32) (a1 : FVec F S123x1000 .f32) (a2 : FVec F S1000x1000 .f32) (a3 : FVec F S1000 .f32)
    (a4 : FVec F S1000x123 .f32) (a5 : FVec F S123 .f32) (h : Cert.Pre_in_range.fn a0 a1 a2 a3 a4 a5 = fun _ => 1#1)
    (x : S4096x20.Idx) : (a0 x).toNat < 123 := by
  haveI : Subsingleton Cert.Pre_in_range.S_.Idx := ⟨fun p q => funext fun a => a.elim0⟩
  obtain ⟨hge, hlt⟩ := IntOp.andi_eq_one.1 (congrFun h ValueIdx.ix0)
  exact toNat_lt_of_signed (Host.reduce_andi_all _ _ _ _ _ hge x) (Host.reduce_andi_all _ _ _ _ _ hlt x)

variable (m : (ℓ : Loc nD τ sig) → Buf (Elt F) ℓ)

/-! ## What the steps leave where they do not write -/

theorem writes1 : (ops1 (F := F)).Forall fun op => op.writes ⊆ (([main_v0, main_v1] : List (Ref sig .tc)).map (Proc.devRef (τ := τ) .tc)).toFinset :=
  StableHlo.forall_writes_sub_of_map rfl
theorem writes2 : (ops2 (F := F)).Forall fun op =>
    op.writes ⊆ (([main_c, main_call0_v0, main_v3, main_v4] : List (Ref sig .tc)).map (Proc.devRef (τ := τ) .tc)).toFinset :=
  StableHlo.forall_writes_sub_of_map rfl
theorem writes3 : (ops3 (F := F)).Forall fun op => op.writes ⊆ (([main_v6, main_v7] : List (Ref sig .tc)).map (Proc.devRef (τ := τ) .tc)).toFinset :=
  StableHlo.forall_writes_sub_of_map rfl

theorem V1_keep (d : Dev nD) (r : Ref sig .tc) (h : r ∉ [main_v0, main_v1]) : V1 m d (ref r) = m (d, ref r) :=
  StableHlo.after_of_writes_sub ops1 (V0 m d) writes1 h
theorem V2_keep (d : Dev nD) (r : Ref sig .tc) (h : r ∉ [main_v0, main_v1]) (h2 : r ≠ main_v2) : V2 m d (ref r) = m (d, ref r) :=
  (V2_ne m d r h2).trans (V1_keep m d r h)
theorem V3_keep (d : Dev nD) (r : Ref sig .tc) (h : r ∉ [main_v0, main_v1]) (h2 : r ≠ main_v2)
    (h3 : r ∉ [main_c, main_call0_v0, main_v3, main_v4]) : V3 m d (ref r) = m (d, ref r) :=
  (StableHlo.after_of_writes_sub ops2 (V2 m d) writes2 h3).trans (V2_keep m d r h h2)
/-- A buffer no step writes ends as it began. -/
theorem V5_keep (d : Dev nD) (r : Ref sig .tc) (h : r ∉ [main_v0, main_v1]) (h2 : r ≠ main_v2)
    (h3 : r ∉ [main_c, main_call0_v0, main_v3, main_v4]) (h4 : r ≠ main_v5) (h5 : r ∉ [main_v6, main_v7]) :
    V5 m d (ref r) = m (d, ref r) :=
  (StableHlo.after_of_writes_sub ops3 (V4 m d) writes3 h5).trans
    ((Function.update_of_ne (StableHlo.devRef_ne_of_ne h4) ..).trans (V3_keep m d r h h2 h3))

/-! ## The indices by tile -/

theorem ix_eq (d : Dev nD) : (args m).ix d = shapeCast S32x20x128 (m (d, ref main_arg0)) shapeCasts_S4096x20_S32x20x128 := by
  have h : V3 m d (ref main_v4) = shapeCast S32x20x128 (V2 m d (ref main_arg0)) shapeCasts_S4096x20_S32x20x128 := by
    unfold V3 ops2
    after_results <;> rfl
  exact h.trans (by rw [V2_keep m d main_arg0 (by decide) (by decide)])

/-- Indices below 123 are rows of the padded table. -/
theorem inRange (d : Dev nD) (h : ∀ x : S4096x20.Idx, (m (d, ref main_arg0) x).toNat < 123) : InRange ((args m).ix d) := fun x => by
  rw [ix_eq]; exact (h _).trans (by decide)

/-! ## The frames -/

/-- The six arguments of every device end as they began. -/
def Kept (r : PUnit × MemSt nD τ sig (Elt F)) (c : Dev nD) : Prop :=
  r.2.mem (c.tc.loc main_arg0) = m (c.tc.loc main_arg0) ∧ r.2.mem (c.tc.loc main_arg1) = m (c.tc.loc main_arg1)
    ∧ r.2.mem (c.tc.loc main_arg2) = m (c.tc.loc main_arg2) ∧ r.2.mem (c.tc.loc main_arg3) = m (c.tc.loc main_arg3)
    ∧ r.2.mem (c.tc.loc main_arg4) = m (c.tc.loc main_arg4) ∧ r.2.mem (c.tc.loc main_arg5) = m (c.tc.loc main_arg5)

theorem kept (r : PUnit × MemSt nD τ sig (Elt F)) (h : QC m r) (c : Dev nD) : Kept m r c :=
  have keep (a : Ref sig .tc) (hu : ref a ∈ Pipeline.ucRefs τ sig) (h1 : a ∉ [main_v0, main_v1]) (h2 : a ≠ main_v2)
      (h3 : a ∉ [main_c, main_call0_v0, main_v3, main_v4]) (h4 : a ≠ main_v5) (h5 : a ∉ [main_v6, main_v7]) :
      r.2.mem (c, ref a) = m (c, ref a) := (h.1 c (ref a) hu).trans (V5_keep m c a h1 h2 h3 h4 h5)
  ⟨keep main_arg0 (by decide) (by decide) (by decide) (by decide) (by decide) (by decide),
    keep main_arg1 (by decide) (by decide) (by decide) (by decide) (by decide) (by decide),
    keep main_arg2 (by decide) (by decide) (by decide) (by decide) (by decide) (by decide),
    keep main_arg3 (by decide) (by decide) (by decide) (by decide) (by decide) (by decide),
    keep main_arg4 (by decide) (by decide) (by decide) (by decide) (by decide) (by decide),
    keep main_arg5 (by decide) (by decide) (by decide) (by decide) (by decide) (by decide)⟩

/-- From indices in range, for any float values: the arguments end as they began and every semaphore at zero. -/
theorem run_kept [∀ e, Nonempty (Elt F e)] (ρ : Dev nD → PrngReg) (h : ∀ (d : Dev nD) (x : S4096x20.Idx), (m (d, ref main_arg0) x).toNat < 123) :
    θ_run (Cert.KernelIdeal.defs (F := F)) (Cert.KernelIdeal.threads (F := F)) ⟨m, fun _ => 0, ρ⟩
      (fun r => (∀ c, Kept m r c) ∧ r.2.sem = fun _ => 0) :=
  (θ_run (Cert.KernelIdeal.defs (F := F)) _ _).mono (fun r h => ⟨kept m r h, h.2⟩) (run_main m ρ fun d => inRange m d (h d))

/-- The kernel and the kernel as read over the ideal values have the same bodies, label by label. -/
theorem bodies_eq : Cert.Kernel.defs₀ (F := F) = Cert.KernelIdeal.defs₀ (F := F) := by
  funext p l a
  match p with
  | .tc => match l with | 0 => rfl | 1 => rfl
  | .scVector _ _ => match l with | 0 => rfl | 1 => rfl
  | .scScalar _ => rfl

theorem defs_eq : Cert.Kernel.defs (F := F) = Cert.KernelIdeal.defs (F := F) :=
  congrArg (fun D => (Cert.KernelIdeal.sc (F := F)).defs (Pipeline.defs (Cert.KernelIdeal.pcfgs (F := F)) D)) bodies_eq

theorem frame_kernel : Cert.quiescent_Kernel := fun m ρ hpre => by
  rw [defs_eq]
  exact run_kept (F := Bits) m ρ fun d => lt_of_pre (F := Bits) _ _ _ _ _ _ (hpre d)

theorem frame_kernelIdeal : Cert.quiescent_KernelIdeal := fun m ρ hpre =>
  run_kept (F := Ideal) m ρ fun d => lt_of_pre (F := Ideal) _ _ _ _ _ _ (hpre d)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

theorem frame_reference_in_range : Cert.quiescent_ReferenceIdeal_pre_in_range := fun m ρ _ => frame_reference m ρ trivial

end Cert.Proof.Tile

end
-- ==== Proof.Equation.lean ====
/-
  The value: what the kernel's program and the reference each leave at an index, over the extended reals. Both are the
  same function of one row of the embedding: the row the index names.
-/
module

public import proofs.«01_k».proof.Proof.Frames
public import Idealize.ShloMosaic.Lib.IdealHost
public import Idealize.ShloMosaic.Lib.KernelVsHost
public import Idealize.ShloMosaic.Lib.MatmulPlain
public import Idealize.ShloMosaic.Lib.ValueIdx

@[expose] public section

noncomputable section

open scoped BigOperators

namespace Cert.Proof.Tile

open Idealize.ShloMosaic hiding ix0 ix1 ix2 ix3 ix4 addf_apply maximumf_apply cmpi_apply eq_ix3
open Idealize.ShloMosaic.ValueIdx
open Idealize.ShloMosaic.TcCoe
open Idealize.SL Idealize.SL.Sem

/-- The two-layer network on one row, in column `n`. -/
def mlp (w1 : (⟨2, ![1000, 1000]⟩ : Shape).Idx → EReal) (b1 : (⟨1, ![1000]⟩ : Shape).Idx → EReal)
    (w2 : (⟨2, ![1000, 123]⟩ : Shape).Idx → EReal) (b2 : (⟨1, ![123]⟩ : Shape).Idx → EReal) (row : Fin 1000 → EReal) (n : Fin 123) : EReal :=
  (∑ j : Fin 1000, max ((∑ h : Fin 1000, max (row h) 0 * w1 (ix2 h j)) + b1 (ix1 j)) 0 * w2 (ix2 j n)) + b2 (ix1 n)

/-! ## The kernel's table -/

section Kernel
open Cert.KernelIdeal Cert.KernelIdeal.Gen

/-- A bias as a row, laid along every row of a matrix, reads at an entry as the bias in its column. -/
theorem bias_row_apply {M N : Nat} (b : (⟨1, ![N]⟩ : Shape).Idx → EReal) (h : (⟨1, ![N]⟩ : Shape).ShapeCasts ⟨2, ![1, N]⟩)
    (h' : (⟨2, ![1, N]⟩ : Shape).ShapeCasts ⟨2, ![1, N]⟩) (hb : (⟨2, ![1, N]⟩ : Shape).Broadcasts ⟨2, ![M, N]⟩) (r : Fin M) (n : Fin N) :
    broadcastTo ⟨2, ![M, N]⟩ (shapeCast ⟨2, ![1, N]⟩ (shapeCast ⟨2, ![1, N]⟩ b h) h') hb (ix2 r n) = b (ix1 n) := by
  refine (broadcastTo_apply _ hb (ix2 r n) (ix2 (0 : Fin 1) n) fun a => ?_).trans ?_
  · match a with
    | ⟨0, _⟩ => rfl
    | ⟨1, _⟩ =>
      show n.val = if N = 1 then 0 else n.val
      split <;> omega
  · refine (shapeCast_apply _ h' (ix2 (0 : Fin 1) n) (ix2 (0 : Fin 1) n) rfl).trans
      (shapeCast_apply b h (ix2 (0 : Fin 1) n) (ix1 n) ?_)
    rw [Shape.rowMajor_val_two, Shape.rowMajor_val_one]; show n.val = 0 * N + n.val; omega

/-- An entry of the table the TensorCore's kernel computes is the network on that row of the embedding. -/
theorem table_apply (e : FVec Ideal S123x1000 .f32) (w1 : FVec Ideal S1000x1000 .f32) (b1 : FVec Ideal S1000 .f32)
    (w2 : FVec Ideal S1000x123 .f32) (b2 : FVec Ideal S123 .f32) (r n : Fin 123) :
    k0_pay1 (F := Ideal) e w1 (shapeCast S1x1000 b1 shapeCasts_S1000_S1x1000) w2 (shapeCast S1x123 b2 shapeCasts_S123_S1x123) (ix2 r n)
      = mlp w1 b1 w2 b2 (fun h => e (ix2 r h)) n := by
  unfold k0_pay1 mlp
  simp only [addf_apply]
  refine congrArg₂ (· + ·) ?_ (bias_row_apply b2 _ _ _ r n)
  refine (Ideal.matmul_plain_apply (M := 123) (K := 1000) (N := 123) none _ w2 _ r n).trans ?_
  rw [show constant (F := Ideal) S123x123 .f32 0x00000000#32 (ix2 r n) = 0 from Ideal.ofBits_zero_f32, zero_add]
  refine Finset.sum_congr rfl fun j _ => ?_
  simp only [maximumf_apply, addf_apply, broadcast_apply]
  refine congrArg (· * w2 (ix2 j n)) (congrArg₂ max (congrArg₂ (· + ·) ?_ (bias_row_apply b1 _ _ _ r j)) Ideal.ofBits_zero_f32)
  refine (Ideal.matmul_plain_apply (M := 123) (K := 1000) (N := 1000) none _ w1 _ r j).trans ?_
  rw [show constant (F := Ideal) S123x1000 .f32 0x00000000#32 (ix2 r j) = 0 from Ideal.ofBits_zero_f32, zero_add]
  refine Finset.sum_congr rfl fun h _ => ?_
  simp only [maximumf_apply, broadcast_apply]
  exact congrArg (· * w1 (ix2 h j)) (congrArg (max (e (ix2 r h))) Ideal.ofBits_zero_f32)

end Kernel

/-! ## The reference's two layers -/

section Reference
open Cert.ReferenceIdeal Cert.ReferenceIdeal.Gen

/-- A product of a batch of rows with a matrix: the rows' last axis contracted with the matrix's first. -/
abbrev rowsDims (B L K N : Nat) (wf : DotDims.WF ⟨3, ![B, L, K]⟩ ⟨2, ![K, N]⟩ ⟨3, ![B, L, N]⟩ [2] [0] [0, 1] [1] [] []) :
    DotDims ⟨3, ![B, L, K]⟩ ⟨2, ![K, N]⟩ ⟨3, ![B, L, N]⟩ where
  lhsContracting := [2]
  rhsContracting := [0]
  lhsNonContracting := [0, 1]
  rhsNonContracting := [1]
  lhsBatch := []
  rhsBatch := []
  wf := wf

/-- Such a product read at an entry: the sum over the contracted axis. -/
theorem rows_apply {B L K N : Nat} (wf) (x : FVec Ideal ⟨3, ![B, L, K]⟩ .f32) (w : FVec Ideal ⟨2, ![K, N]⟩ .f32) (b : Fin B) (l : Fin L) (n : Fin N) :
    Host.dotGeneral (rowsDims B L K N wf) none x w (ix3 b l n) = ∑ k : Fin K, x (ix3 b l k) * w (ix2 k n) := by
  have hr : (rowsDims B L K N wf).contr.rank = 1 := rfl
  have hs : (rowsDims B L K N wf).contr.size ⟨0, by rw [hr]; exact Nat.one_pos⟩ = K := rfl
  refine (Ideal.dotGeneral_apply (rowsDims B L K N wf) none _ x w (ix3 b l n)).trans ?_
  rw [← Equiv.sum_comp (contrEquiv1 _ K hr hs).symm]
  refine Finset.sum_congr rfl fun k _ => ?_
  have hk := contrEquiv1_symm_val _ K hr hs k
  have el : (rowsDims B L K N wf).lhsIdx (ix3 b l n) ((contrEquiv1 _ K hr hs).symm k) = ix3 b l k := by
    funext a; apply Fin.ext
    match a with
    | ⟨0, _⟩ => rfl
    | ⟨1, _⟩ => rfl
    | ⟨2, _⟩ => exact hk
  have er : (rowsDims B L K N wf).rhsIdx (ix3 b l n) ((contrEquiv1 _ K hr hs).symm k) = ix2 k n := by
    funext a; apply Fin.ext
    match a with
    | ⟨0, _⟩ => exact hk
    | ⟨1, _⟩ => rfl
  rw [el, er]

/-- A bias laid along every row of a batch reads at an entry as the bias in its column. -/
theorem bias_batch_apply {B L N : Nat} (b : (⟨1, ![N]⟩ : Shape).Idx → EReal) (h1 : (⟨1, ![N]⟩ : Shape).BroadcastsInDim ⟨3, ![1, 1, N]⟩ ![2])
    (h2 : (⟨3, ![1, 1, N]⟩ : Shape).BroadcastsInDim ⟨3, ![B, L, N]⟩ ![0, 1, 2]) (i : Fin B) (l : Fin L) (n : Fin N) :
    broadcastInDim ⟨3, ![B, L, N]⟩ ![0, 1, 2] h2 (broadcastInDim ⟨3, ![1, 1, N]⟩ ![2] h1 b) (ix3 i l n) = b (ix1 n) := by
  refine (broadcastInDim_apply _ h2 _ (ix3 i l n) (ix3 (0 : Fin 1) (0 : Fin 1) n) fun a => ?_).trans
    (broadcastInDim_apply _ h1 b (ix3 (0 : Fin 1) (0 : Fin 1) n) (ix1 n) fun a => ?_)
  · match a with
    | ⟨0, _⟩ => rfl
    | ⟨1, _⟩ => rfl
    | ⟨2, _⟩ =>
      show n.val = if N = 1 then 0 else n.val
      split <;> omega
  · match a with
    | ⟨0, _⟩ =>
      show n.val = if N = 1 then 0 else n.val
      split <;> omega

/-- A zero laid over a whole batch is zero at every entry. -/
theorem zero_batch_apply (j : S4096x20x1000.Idx) :
    broadcastInDim S4096x20x1000 ![] bcast_S_S4096x20x1000 (constant (F := Ideal) S_ .f32 0x00000000#32) j = 0 :=
  (broadcastInDim_scalar_apply bcast_S_S4096x20x1000 _ j).trans Ideal.ofBits_zero_f32

/-- The reference's layers on a batch of rows, at an entry: the network on that row. -/
theorem layers_apply (x : FVec Ideal S4096x20x1000 .f32) (w1 : FVec Ideal S1000x1000 .f32) (b1 : FVec Ideal S1000 .f32)
    (w2 : FVec Ideal S1000x123 .f32) (b2 : FVec Ideal S123 .f32) (b : Fin 4096) (l : Fin 20) (n : Fin 123) :
    addf (Host.dotGeneral dot_S4096x20x1000_S1000x123_S4096x20x123_2_0_01_1_n_n none
        (maximumf (addf (Host.dotGeneral dot_S4096x20x1000_S1000x1000_S4096x20x1000_2_0_01_1_n_n none
            (maximumf x (broadcastInDim S4096x20x1000 ![] bcast_S_S4096x20x1000 (constant S_ .f32 0x00000000#32))) w1)
          (broadcastInDim S4096x20x1000 ![0, 1, 2] bcast_S1x1x1000_S4096x20x1000_0_1_2 (broadcastInDim S1x1x1000 ![2] bcast_S1000_S1x1x1000_2 b1)))
          (broadcastInDim S4096x20x1000 ![] bcast_S_S4096x20x1000 (constant S_ .f32 0x00000000#32))) w2)
      (broadcastInDim S4096x20x123 ![0, 1, 2] bcast_S1x1x123_S4096x20x123_0_1_2 (broadcastInDim S1x1x123 ![2] bcast_S123_S1x1x123_2 b2)) (ix3 b l n)
      = mlp w1 b1 w2 b2 (fun h => x (ix3 b l h)) n := by
  unfold mlp
  rw [addf_apply]
  refine congrArg₂ (· + ·) ?_ (bias_batch_apply b2 _ _ b l n)
  refine (rows_apply _ _ w2 b l n).trans (Finset.sum_congr rfl fun j _ => ?_)
  rw [maximumf_apply, addf_apply, zero_batch_apply]
  refine congrArg (· * w2 (ix2 j n)) (congrArg (max · 0) (congrArg₂ (· + ·) ?_ (bias_batch_apply b1 _ _ b l j)))
  refine (rows_apply _ _ w1 b l j).trans (Finset.sum_congr rfl fun h _ => ?_)
  rw [maximumf_apply, zero_batch_apply]

/-- Where the reference's gather starts for each index: a negative index counted from the end. -/
def startIx (a0 : IVec S4096x20 32) : IVec S4096x20x1 32 :=
  broadcastInDim S4096x20x1 ![0, 1] bcast_S4096x20_S4096x20x1_0_1
    (select (cmpi .slt a0 (broadcastInDim S4096x20 ![] bcast_S_S4096x20 (constantI S_ 32 0#32)))
      (addi a0 (broadcastInDim S4096x20 ![] bcast_S_S4096x20 (constantI S_ 32 123#32))) a0)

/-- The rows the reference takes: the gathered ones where the start is a row of the embedding, and elsewhere no number. -/
def taken (a0 : IVec S4096x20 32) (e : FVec Ideal S123x1000 .f32) : FVec Ideal S4096x20x1000 .f32 :=
  select (broadcastInDim S4096x20x1000 ![0, 1] bcast_S4096x20_S4096x20x1000_0_1
      (Host.reduce IntOp.andi
        (andi (cmpi .sge (startIx a0) (broadcastInDim S4096x20x1 ![] bcast_S_S4096x20x1 (constantI S_ 32 0#32)))
          (cmpi .sle (startIx a0) (broadcastInDim S4096x20x1 ![0, 1, 2] bcast_S1x1x1_S4096x20x1_0_1_2
            (broadcastInDim S1x1x1 ![2] bcast_S1_S1x1x1_2 (constantI S1 32 122#32)))))
        (constantI S_ 1 1#1) reducesTo_S4096x20x1_S4096x20_d2 h_S_))
    (Host.gather gather_S123x1000_S4096x20x1_S4096x20x1000_2_0_n_n_0_2_11000 e (startIx a0))
    (broadcastInDim S4096x20x1000 ![] bcast_S_S4096x20x1000 (constant S_ .f32 0x7FC00000#32))

/-- A word below 123 reads as itself as a signed word. -/
theorem toInt_of_lt {v : BitVec 32} (h : v.toNat < 123) : v.toInt = v.toNat := by
  rw [BitVec.toInt_eq_toNat_cond]; omega

/-- For an index in range the start is the index. -/
theorem startIx_apply (a0 : IVec S4096x20 32) (b : Fin 4096) (l : Fin 20) (z : Fin 1) (h : (a0 (ix2 b l)).toNat < 123) :
    startIx a0 (ix3 b l z) = a0 (ix2 b l) := by
  refine (broadcastInDim_apply _ bcast_S4096x20_S4096x20x1_0_1 _ (ix3 b l z) (ix2 b l) fun a => ?_).trans ?_
  · match a with
    | ⟨0, _⟩ => rfl
    | ⟨1, _⟩ => rfl
  · have hc : IntOp.cmpi .slt (a0 (ix2 b l)) 0#32 = 0#1 := eq_zero_of_ne_one fun hh => by
      have := IntOp.cmpi_slt.mp hh
      rw [toInt_of_lt h, BitVec.toInt_zero] at this
      omega
    show Scalar.select (IntOp.cmpi .slt (a0 (ix2 b l)) 0#32) _ (a0 (ix2 b l)) = _
    rw [hc, select_zero]

/-- The gather of rows read at an entry: the operand's row at the start, read signed and held within the operand. -/
theorem gather_rows_apply (e : FVec Ideal S123x1000 .f32) (idx : IVec S4096x20x1 32) (b : Fin 4096) (l : Fin 20) (h : Fin 1000) :
    Host.gather gather_S123x1000_S4096x20x1_S4096x20x1000_2_0_n_n_0_2_11000 e idx (ix3 b l h)
      = e (ix2 ⟨min (idx (ix3 b l 0)).toInt.toNat 122, by omega⟩ h) := by
  unfold Host.gather
  refine congrArg e (funext fun a => Fin.ext ?_)
  match a with
  | ⟨0, _⟩ =>
    show GatherDims.start _ (ix3 b l h) idx 0 + GatherDims.batchCoord _ (ix3 b l h) 0 + GatherDims.offCoord _ (ix3 b l h) 0 = _
    rw [GatherDims.batchCoord_eq_zero _ _ _ List.not_mem_nil,
      GatherDims.offCoord_eq_zero _ _ _ (fun hh => ((GatherDims.mem_sKept _ _).mp hh).1 (List.mem_singleton.mpr rfl))]
    unfold GatherDims.start
    rw [dif_pos (show (0 : Fin 2) ∈ gather_S123x1000_S4096x20x1_S4096x20x1000_2_0_n_n_0_2_11000.startIndexMap from List.mem_singleton.mpr rfl)]
    have hsi (hp) : gather_S123x1000_S4096x20x1_S4096x20x1000_2_0_n_n_0_2_11000.siIdx (ix3 b l h)
        ⟨List.idxOf (0 : Fin 2) gather_S123x1000_S4096x20x1_S4096x20x1000_2_0_n_n_0_2_11000.startIndexMap, hp⟩ = ix3 b l 0 := by
      funext c; apply Fin.ext
      match c with
      | ⟨0, _⟩ => rfl
      | ⟨1, _⟩ => rfl
      | ⟨2, _⟩ => rfl
    rw [hsi]; rfl
  | ⟨1, _⟩ =>
    show GatherDims.start _ (ix3 b l h) idx 1 + GatherDims.batchCoord _ (ix3 b l h) 1 + GatherDims.offCoord _ (ix3 b l h) 1 = _
    rw [GatherDims.batchCoord_eq_zero _ _ _ List.not_mem_nil]
    unfold GatherDims.start
    rw [dif_neg (show (1 : Fin 2) ∉ gather_S123x1000_S4096x20x1_S4096x20x1000_2_0_n_n_0_2_11000.startIndexMap by decide)]
    unfold GatherDims.offCoord
    rw [dif_pos (show (1 : Fin 2) ∈ gather_S123x1000_S4096x20x1_S4096x20x1000_2_0_n_n_0_2_11000.sKept by decide)]
    show 0 + 0 + h.val = h.val
    omega

/-- With every index in range, the row taken is the row of the embedding the index names. -/
theorem taken_apply (a0 : IVec S4096x20 32) (e : FVec Ideal S123x1000 .f32) (hlt : ∀ x, (a0 x).toNat < 123)
    (b : Fin 4096) (l : Fin 20) (h : Fin 1000) : taken a0 e (ix3 b l h) = e (ix2 ⟨(a0 (ix2 b l)).toNat, hlt _⟩ h) := by
  have hall : ∀ i : S4096x20x1.Idx, IntOp.andi (IntOp.cmpi .sge (startIx a0 i) 0#32) (IntOp.cmpi .sle (startIx a0 i) 122#32) = 1#1 := fun i => by
    have hi : startIx a0 i = a0 (ix2 (i 0) (i 1)) := (congrArg (startIx a0) (eq_ix3 i)).trans (startIx_apply a0 (i 0) (i 1) (i 2) (hlt _))
    have hv := hlt (ix2 (i 0) (i 1))
    rw [hi]
    refine IntOp.andi_eq_one.2 ⟨IntOp.cmpi_sge.2 ?_, IntOp.cmpi_sle.2 ?_⟩
    · rw [toInt_of_lt hv, BitVec.toInt_zero]; omega
    · rw [toInt_of_lt hv]
      show ((a0 (ix2 (i 0) (i 1))).toNat : Int) ≤ 122
      omega
  have hone : broadcastInDim S4096x20x1000 ![0, 1] bcast_S4096x20_S4096x20x1000_0_1
      (Host.reduce IntOp.andi
        (andi (cmpi .sge (startIx a0) (broadcastInDim S4096x20x1 ![] bcast_S_S4096x20x1 (constantI S_ 32 0#32)))
          (cmpi .sle (startIx a0) (broadcastInDim S4096x20x1 ![0, 1, 2] bcast_S1x1x1_S4096x20x1_0_1_2
            (broadcastInDim S1x1x1 ![2] bcast_S1_S1x1x1_2 (constantI S1 32 122#32)))))
        (constantI S_ 1 1#1) reducesTo_S4096x20x1_S4096x20_d2 h_S_) (ix3 b l h) = 1#1 :=
    Host.reduce_andi_one _ _ _ _ _ rfl hall
  unfold taken
  rw [select_apply, hone, select_one, gather_rows_apply]
  refine congrArg e (congrArg (ix2 · h) (Fin.ext ?_))
  show min (startIx a0 (ix3 b l 0)).toInt.toNat 122 = (a0 (ix2 b l)).toNat
  rw [startIx_apply a0 b l 0 (hlt _), toInt_of_lt (hlt _)]
  have := hlt (ix2 b l)
  omega

end Reference

/-! ## The kernel's program, at an entry of its result -/

section Program
open Cert.KernelIdeal Cert.KernelIdeal.Gen

variable (m : (ℓ : Loc nD τ sig) → Buf (Elt Ideal) ℓ) (d : Dev nD)

theorem V1_bias1 : V1 m d (ref main_v0) = shapeCast S1x1000 (m (d, ref main_arg3)) shapeCasts_S1000_S1x1000 := by
  unfold V1 ops1
  after_results <;> rfl

theorem V1_bias2 : V1 m d (ref main_v1) = shapeCast S1x123 (m (d, ref main_arg5)) shapeCasts_S123_S1x123 := by
  unfold V1 ops1
  after_results <;> rfl

/-- The table, of the arguments. -/
theorem V2_table : V2 m d (ref main_v2) = k0_pay1 (F := Ideal) (m (d, ref main_arg1)) (m (d, ref main_arg2))
    (shapeCast S1x1000 (m (d, ref main_arg3)) shapeCasts_S1000_S1x1000) (m (d, ref main_arg4))
    (shapeCast S1x123 (m (d, ref main_arg5)) shapeCasts_S123_S1x123) := by
  rw [V2_out]
  show k0_pay1 (F := Ideal) (V1 m d (ref main_arg1)) (V1 m d (ref main_arg2)) (V1 m d (ref main_v0)) (V1 m d (ref main_arg4)) (V1 m d (ref main_v1)) = _
  rw [V1_bias1, V1_bias2, V1_keep m d main_arg1 (by decide), V1_keep m d main_arg2 (by decide), V1_keep m d main_arg4 (by decide)]

/-- The padded table. -/
theorem V3_padded : V3 m d (ref main_v3) = pad S128x128 ![0, 0] ![5, 5] ![0, 0] (V2 m d (ref main_v2))
    (sitofp (F := Ideal) .f32 (constantI S_ 32 0#32)) pads_S123x123_S128x128_050_050 h_S_ := by
  unfold V3 ops2
  simp only [StableHlo.TRef.binary, StableHlo.TRef.unary, StableHlo.TRef.toBuf, StableHlo.TRef.ofBuf, cast_eq]
  after_results <;> rfl

/-- The result, of the gathered rows. -/
theorem V5_result : V5 m d (ref main_v7) = shapeCast S4096x20x123
    (extractStridedSlice S32x20x128x123 ![0, 0, 0, 0] (V4 m d (ref main_v5)) slices_S32x20x128x128_S32x20x128x123_0_0_0_0)
    shapeCasts_S32x20x128x123_S4096x20x123 := by
  unfold V5 ops3
  after_results <;> rfl

/-- With every index in range, an entry of the result is the network on the row of the embedding the index names. -/
theorem result_apply (hlt : ∀ x : S4096x20.Idx, (m (d, ref main_arg0) x).toNat < 123) (b : Fin 4096) (l : Fin 20) (n : Fin 123) :
    V5 m d (ref main_v7) (ix3 b l n) = mlp (m (d, ref main_arg2)) (m (d, ref main_arg3)) (m (d, ref main_arg4)) (m (d, ref main_arg5))
      (fun h => m (d, ref main_arg1) (ix2 ⟨(m (d, ref main_arg0) (ix2 b l)).toNat, hlt _⟩ h)) n := by
  have hb := b.isLt
  have hl := l.isLt
  have hn := n.isLt
  let w : Fin 32 := ⟨(b.val * 20 + l.val) / 2560, by omega⟩
  let j : Fin 20 := ⟨(b.val * 20 + l.val) / 128 % 20, by omega⟩
  let r : Fin 128 := ⟨(b.val * 20 + l.val) % 128, by omega⟩
  have hp : (w.val * 20 + j.val) * 128 + r.val = b.val * 20 + l.val := by
    show ((b.val * 20 + l.val) / 2560 * 20 + (b.val * 20 + l.val) / 128 % 20) * 128 + (b.val * 20 + l.val) % 128 = _
    omega
  have hix : V3 m d (ref main_v4) (ix3 w j r) = m (d, ref main_arg0) (ix2 b l) :=
    (congrFun (ix_eq m d) (ix3 w j r)).trans (shapeCast_apply _ _ (ix3 w j r) (ix2 b l) (by
      rw [Shape.rowMajor_val_three, Shape.rowMajor_val_two]; exact hp.symm))
  rw [V5_result]
  refine (shapeCast_apply _ _ (ix3 b l n) (ix4 w j r n) (by
    rw [Shape.rowMajor_val_three, Shape.rowMajor_val_four]
    show ((w.val * 20 + j.val) * 128 + r.val) * 123 + n.val = (b.val * 20 + l.val) * 123 + n.val
    rw [hp])).trans ?_
  refine (extractStridedSlice_apply _ _ _ (ix4 w j r n) (ix4 w j r (⟨n.val, by omega⟩ : Fin 128)) fun a => by
    match a with
    | ⟨0, _⟩ => exact (Nat.zero_add _).symm
    | ⟨1, _⟩ => exact (Nat.zero_add _).symm
    | ⟨2, _⟩ => exact (Nat.zero_add _).symm
    | ⟨3, _⟩ => exact (Nat.zero_add _).symm).trans ?_
  rw [show V4 m d (ref main_v5) = outVal (F := Ideal) (V3 m d (ref main_v4)) (V3 m d (ref main_v3)) from Function.update_self ..]
  unfold outVal
  rw [V3_padded]
  refine (pad_apply_of_inside _ _ _ _ _ _ _ _ (ix2 ⟨(m (d, ref main_arg0) (ix2 b l)).toNat, hlt _⟩ n) fun a => ?_).trans ?_
  · match a with
    | ⟨0, _⟩ =>
      show (V3 m d (ref main_v4) (ix3 w j r)).toNat % 128 = 0 + (m (d, ref main_arg0) (ix2 b l)).toNat * (0 + 1)
      rw [hix]
      have := hlt (ix2 b l)
      omega
    | ⟨1, _⟩ => show n.val = 0 + n.val * (0 + 1); omega
  · rw [V2_table]
    exact table_apply _ _ _ _ _ _ n

end Program

/-! ## The claim -/

open Cert.KernelIdeal in
/-- Over the extended reals, with the indices in range, the kernel's result is the reference's. -/
theorem algebraic : Cert.algebraic_KernelIdeal_ReferenceIdeal := fun m ρ m' ρ' hpre hsame => by
  have hlt (c : Dev nD) := lt_of_pre (F := Ideal) _ _ _ _ _ _ (hpre c)
  refine ⟨fun c => V5 m c (ref main_v7), (θ_run (Cert.KernelIdeal.defs (F := Ideal)) _ _).mono
    (fun r h c => ⟨h.1 c (ref main_v7) (by decide), kept m r h c⟩) (run_main (F := Ideal) m ρ fun d => inRange m d (hlt d)),
    (θ_run (Cert.ReferenceIdeal.defs (F := Ideal)) _ _).mono (fun r h c => ⟨(h c).1.trans ?_, (h c).2⟩) (Cert.ReferenceIdeal.Value.run m' ρ')⟩
  obtain ⟨e0, e1, e2, e3, e4, e5⟩ := hsame c
  rw [e0, e1, e2, e3, e4, e5]
  funext x
  rw [eq_ix3 x]
  refine (layers_apply (taken _ _) _ _ _ _ (x 0) (x 1) (x 2)).trans (Eq.trans ?_ (result_apply m c (hlt c) (x 0) (x 1) (x 2)).symm)
  exact congrArg (mlp _ _ _ _ · (x 2)) (funext fun h => taken_apply _ _ (hlt c) (x 0) (x 1) h)

end Cert.Proof.Tile

end
-- ==== Proof.lean ====
/-
  The proof of `Cert.Claim` (proof/Defs.lean): the frames of the kernel, of the kernel as read over the ideal values and
  of the reference; that the kernel's reading there needed no rewrite; and that over the ideal values the kernel's result
  is the reference's. The run of the program is in Proof/Main.lean, the frames in Proof/Frames.lean, the value in
  Proof/Equation.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Frames
public import proofs.«01_k».proof.Proof.Equation

@[expose] public section

noncomputable section

namespace Cert.Proof

/-- Every claim of proof/Defs.lean. -/
theorem claim : Cert.Claim := ⟨Cert.Kernel.Gen.facts, Cert.KernelIdeal.Gen.facts, Cert.ReferenceIdeal.Gen.facts, Cert.Pre_in_range.Gen.facts,
  Tile.frame_kernel, Tile.frame_kernelIdeal, Tile.frame_reference, Tile.frame_reference_in_range, trivial, Tile.algebraic⟩

end Cert.Proof

end
